-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "normal_sq" .f32 0x24E69595#32 ((126765058482001 / 1267650600228229401496703205376 : ℝ) : EReal)
  ∧ IdealRules.named_const.Statement Cert.KernelIdeal.κ "pred_sq" .f32 0x179ABE15#32 ((5316911940649 / 5316911983139663491615228241121378304 : ℝ) : EReal)

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S4x1x512x512 : Shape := ⟨4, ![4, 1, 512, 512]⟩
abbrev S4 : Shape := ⟨1, ![4]⟩
abbrev S4x4 : Shape := ⟨2, ![4, 4]⟩
abbrev S1x4x4x512x512 : Shape := ⟨5, ![1, 4, 4, 512, 512]⟩
abbrev S4x3x3 : Shape := ⟨3, ![4, 3, 3]⟩
abbrev S_ : Shape := ⟨0, ![]⟩
abbrev S4x1x1 : Shape := ⟨3, ![4, 1, 1]⟩

class Facts : Prop where
  bcast_S_S4x1x512x512 : S_.BroadcastsInDim S4x1x512x512 (![] : Fin 0 → Fin S4x1x512x512.rank)
  reducesTo_S4x1x512x512_S_d0_1_2_3 : S4x1x512x512.ReducesTo [0, 1, 2, 3] S_
  h_S_ : 0 < S_.numel
  slices_S4x3x3_S4x1x1_0_0_0 : S4x3x3.Slices ![0, 0, 0] S4x1x1
  shapeCasts_S4x1x1_S4 : S4x1x1.ShapeCasts S4
  bcast_S_S4 : S_.BroadcastsInDim S4 (![] : Fin 0 → Fin S4.rank)
  slices_S4x3x3_S4x1x1_0_1_1 : S4x3x3.Slices ![0, 1, 1] S4x1x1
  reducesTo_S4_S_d0 : S4.ReducesTo [0] S_
  slices_S4x3x3_S4x1x1_0_0_2 : S4x3x3.Slices ![0, 0, 2] S4x1x1
  slices_S4x3x3_S4x1x1_0_1_2 : S4x3x3.Slices ![0, 1, 2] S4x1x1

variable [Facts]

def fn_part2 {F : FTy → Type} [FloatOps F] (main_arg7 : IVec S4x1x512x512 32) (main_v27 : IVec S_ 1) (main_v36 : IVec S4 1) : IVec S_ 1 :=
  let main_c_9 : IVec S_ 1 := constantI S_ 1 1#1
  let main_v37 : IVec S_ 1 := (fun x v => Host.reduce IntOp.andi x v reducesTo_S4_S_d0 h_S_) main_v36 main_c_9
  let main_v38 : IVec S_ 1 := andi main_v27 main_v37
  let main_c_10 : IVec S_ 32 := constantI S_ 32 0#32
  let main_v39 : IVec S4x1x512x512 32 := broadcastInDim S4x1x512x512 ![] bcast_S_S4x1x512x512 main_c_10
  let main_v40 : IVec S4x1x512x512 1 := cmpi .sge main_arg7 main_v39
  let main_c_11 : IVec S_ 32 := constantI S_ 32 150#32
  let main_v41 : IVec S4x1x512x512 32 := broadcastInDim S4x1x512x512 ![] bcast_S_S4x1x512x512 main_c_11
  let main_v42 : IVec S4x1x512x512 1 := cmpi .slt main_arg7 main_v41
  let main_v43 : IVec S4x1x512x512 1 := andi main_v40 main_v42
  let main_c_12 : IVec S_ 1 := constantI S_ 1 1#1
  let main_v44 : IVec S_ 1 := (fun x v => Host.reduce IntOp.andi x v reducesTo_S4x1x512x512_S_d0_1_2_3 h_S_) main_v43 main_c_12
  let main_v45 : IVec S_ 1 := andi main_v38 main_v44
  main_v45

def fn_part1 {F : FTy → Type} [FloatOps F] (main_arg6 : FVec F S4x3x3 .f32) (main_arg7 : IVec S4x1x512x512 32) (main_v16 : IVec S_ 1) (main_v17 : FVec F S4x1x1 .f32) : IVec S_ 1 :=
  let main_v18 : FVec F S4 .f32 := shapeCast S4 main_v17 shapeCasts_S4x1x1_S4
  let main_cst_4 : FVec F S_ .f32 := constant S_ .f32 0xFF800000#32
  let main_v19 : FVec F S4 .f32 := broadcastInDim S4 ![] bcast_S_S4 main_cst_4
  let main_v20 : IVec S4 1 := cmpf .ogt main_v18 main_v19
  let main_v21 : FVec F S4x1x1 .f32 := (extractStridedSlice S4x1x1 ![0, 0, 2] · slices_S4x3x3_S4x1x1_0_0_2) main_arg6
  let main_v22 : FVec F S4 .f32 := shapeCast S4 main_v21 shapeCasts_S4x1x1_S4
  let main_cst_5 : FVec F S_ .f32 := constant S_ .f32 0x7F800000#32
  let main_v23 : FVec F S4 .f32 := broadcastInDim S4 ![] bcast_S_S4 main_cst_5
  let main_v24 : IVec S4 1 := cmpf .olt main_v22 main_v23
  let main_v25 : IVec S4 1 := andi main_v20 main_v24
  let main_c_6 : IVec S_ 1 := constantI S_ 1 1#1
  let main_v26 : IVec S_ 1 := (fun x v => Host.reduce IntOp.andi x v reducesTo_S4_S_d0 h_S_) main_v25 main_c_6
  let main_v27 : IVec S_ 1 := andi main_v16 main_v26
  let main_v28 : FVec F S4x1x1 .f32 := (extractStridedSlice S4x1x1 ![0, 1, 2] · slices_S4x3x3_S4x1x1_0_1_2) main_arg6
  let main_v29 : FVec F S4 .f32 := shapeCast S4 main_v28 shapeCasts_S4x1x1_S4
  let main_cst_7 : FVec F S_ .f32 := constant S_ .f32 0xFF800000#32
  let main_v30 : FVec F S4 .f32 := broadcastInDim S4 ![] bcast_S_S4 main_cst_7
  let main_v31 : IVec S4 1 := cmpf .ogt main_v29 main_v30
  let main_v32 : FVec F S4x1x1 .f32 := (extractStridedSlice S4x1x1 ![0, 1, 2] · slices_S4x3x3_S4x1x1_0_1_2) main_arg6
  let main_v33 : FVec F S4 .f32 := shapeCast S4 main_v32 shapeCasts_S4x1x1_S4
  let main_cst_8 : FVec F S_ .f32 := constant S_ .f32 0x7F800000#32
  let main_v34 : FVec F S4 .f32 := broadcastInDim S4 ![] bcast_S_S4 main_cst_8
  let main_v35 : IVec S4 1 := cmpf .olt main_v33 main_v34
  let main_v36 : IVec S4 1 := andi main_v31 main_v35
  fn_part2 (F := F) main_arg7 main_v27 main_v36

def fn {F : FTy → Type} [FloatOps F] (main_arg0 : IVec S4x1x512x512 1) (main_arg1 : IVec S4 32) (main_arg2 : IVec S4x4 32) (main_arg3 : FVec F S4x1x512x512 .f32) (main_arg4 : FVec F S4x1x512x512 .f32) (main_arg5 : FVec F S1x4x4x512x512 .f32) (main_arg6 : FVec F S4x3x3 .f32) (main_arg7 : IVec S4x1x512x512 32) : IVec S_ 1 :=
  let main_cst : FVec F S_ .f32 := constant S_ .f32 0xFF800000#32
  let main_v0 : FVec F S4x1x512x512 .f32 := broadcastInDim S4x1x512x512 ![] bcast_S_S4x1x512x512 main_cst
  let main_v1 : IVec S4x1x512x512 1 := cmpf .ogt main_arg3 main_v0
  let main_cst_0 : FVec F S_ .f32 := constant S_ .f32 0x7F800000#32
  let main_v2 : FVec F S4x1x512x512 .f32 := broadcastInDim S4x1x512x512 ![] bcast_S_S4x1x512x512 main_cst_0
  let main_v3 : IVec S4x1x512x512 1 := cmpf .olt main_arg3 main_v2
  let main_v4 : IVec S4x1x512x512 1 := andi main_v1 main_v3
  let main_c : IVec S_ 1 := constantI S_ 1 1#1
  let main_v5 : IVec S_ 1 := (fun x v => Host.reduce IntOp.andi x v reducesTo_S4x1x512x512_S_d0_1_2_3 h_S_) main_v4 main_c
  let main_v6 : FVec F S4x1x1 .f32 := (extractStridedSlice S4x1x1 ![0, 0, 0] · slices_S4x3x3_S4x1x1_0_0_0) main_arg6
  let main_v7 : FVec F S4 .f32 := shapeCast S4 main_v6 shapeCasts_S4x1x1_S4
  let main_cst_1 : FVec F S_ .f32 := constant S_ .f32 0x00000000#32
  let main_v8 : FVec F S4 .f32 := broadcastInDim S4 ![] bcast_S_S4 main_cst_1
  let main_v9 : IVec S4 1 := cmpf .une main_v7 main_v8
  let main_v10 : FVec F S4x1x1 .f32 := (extractStridedSlice S4x1x1 ![0, 1, 1] · slices_S4x3x3_S4x1x1_0_1_1) main_arg6
  let main_v11 : FVec F S4 .f32 := shapeCast S4 main_v10 shapeCasts_S4x1x1_S4
  let main_cst_2 : FVec F S_ .f32 := constant S_ .f32 0x00000000#32
  let main_v12 : FVec F S4 .f32 := broadcastInDim S4 ![] bcast_S_S4 main_cst_2
  let main_v13 : IVec S4 1 := cmpf .une main_v11 main_v12
  let main_v14 : IVec S4 1 := andi main_v9 main_v13
  let main_c_3 : IVec S_ 1 := constantI S_ 1 1#1
  let main_v15 : IVec S_ 1 := (fun x v => Host.reduce IntOp.andi x v reducesTo_S4_S_d0 h_S_) main_v14 main_c_3
  let main_v16 : IVec S_ 1 := andi main_v5 main_v15
  let main_v17 : FVec F S4x1x1 .f32 := (extractStridedSlice S4x1x1 ![0, 0, 2] · slices_S4x3x3_S4x1x1_0_0_2) main_arg6
  fn_part1 (F := F) main_arg6 main_arg7 main_v16 main_v17
-- ==== Kernel.lean ====
abbrev S4x1x512x512 : Shape := ⟨4, ![4, 1, 512, 512]⟩
abbrev S4 : Shape := ⟨1, ![4]⟩
abbrev S4x4 : Shape := ⟨2, ![4, 4]⟩
abbrev S1x4x4x512x512 : Shape := ⟨5, ![1, 4, 4, 512, 512]⟩
abbrev S4x3x3 : Shape := ⟨3, ![4, 3, 3]⟩
abbrev S4x512x512 : Shape := ⟨3, ![4, 512, 512]⟩
abbrev S4x4x512x512 : Shape := ⟨4, ![4, 4, 512, 512]⟩
abbrev S4x1x1 : Shape := ⟨3, ![4, 1, 1]⟩
abbrev S4x1 : Shape := ⟨2, ![4, 1]⟩
abbrev S512 : Shape := ⟨1, ![512]⟩
abbrev S1x512 : Shape := ⟨2, ![1, 512]⟩
abbrev S4x512 : Shape := ⟨2, ![4, 512]⟩
abbrev S4x1x512 : Shape := ⟨3, ![4, 1, 512]⟩
abbrev S4x512x1 : Shape := ⟨3, ![4, 512, 1]⟩
abbrev S4x1x511 : Shape := ⟨3, ![4, 1, 511]⟩
abbrev S4x511x1 : Shape := ⟨3, ![4, 511, 1]⟩
abbrev S_ : Shape := ⟨0, ![]⟩
abbrev S1 : Shape := ⟨1, ![1]⟩
abbrev S1x512x512 : Shape := ⟨3, ![1, 512, 512]⟩
abbrev S1x4x512x512 : Shape := ⟨4, ![1, 4, 512, 512]⟩
abbrev S1x1x512 : Shape := ⟨3, ![1, 1, 512]⟩
abbrev S1x512x1 : Shape := ⟨3, ![1, 512, 1]⟩
abbrev S1x1x1 : Shape := ⟨3, ![1, 1, 1]⟩
abbrev S2 : Shape := ⟨1, ![2]⟩
abbrev S512x512 : Shape := ⟨2, ![512, 512]⟩
abbrev S512x1 : Shape := ⟨2, ![512, 1]⟩
abbrev S1x1 : Shape := ⟨2, ![1, 1]⟩
abbrev S512x511 : Shape := ⟨2, ![512, 511]⟩
abbrev S511x512 : Shape := ⟨2, ![511, 512]⟩
abbrev S1x1x512x512 : Shape := ⟨4, ![1, 1, 512, 512]⟩

abbrev nBuf : Space → Nat
  | .hbm => 104
  | .vmem => 28
  | .smem => 2
  | _ => 0

abbrev bufTy : (tb : Table) → Fin (tcTables nBuf tb) → BufTy
  | .hbm, ⟨0, _⟩ => ⟨S4x1x512x512, .i1⟩
  | .hbm, ⟨1, _⟩ => ⟨S4, .i32⟩
  | .hbm, ⟨2, _⟩ => ⟨S4x4, .i32⟩
  | .hbm, ⟨3, _⟩ => ⟨S4x1x512x512, .f32⟩
  | .hbm, ⟨4, _⟩ => ⟨S4x1x512x512, .f32⟩
  | .hbm, ⟨5, _⟩ => ⟨S1x4x4x512x512, .f32⟩
  | .hbm, ⟨6, _⟩ => ⟨S4x3x3, .f32⟩
  | .hbm, ⟨7, _⟩ => ⟨S4x1x512x512, .i32⟩
  | .hbm, ⟨8, _⟩ => ⟨S4x512x512, .f32⟩
  | .hbm, ⟨9, _⟩ => ⟨S4x512x512, .f32⟩
  | .hbm, ⟨10, _⟩ => ⟨S4x512x512, .i32⟩
  | .hbm, ⟨11, _⟩ => ⟨S4x512x512, .i8⟩
  | .hbm, ⟨12, _⟩ => ⟨S4x4x512x512, .f32⟩
  | .hbm, ⟨13, _⟩ => ⟨S4x1x1, .f32⟩
  | .hbm, ⟨14, _⟩ => ⟨S4, .f32⟩
  | .hbm, ⟨15, _⟩ => ⟨S4x1, .f32⟩
  | .hbm, ⟨16, _⟩ => ⟨S4x1x1, .f32⟩
  | .hbm, ⟨17, _⟩ => ⟨S4, .f32⟩
  | .hbm, ⟨18, _⟩ => ⟨S4x1, .f32⟩
  | .hbm, ⟨19, _⟩ => ⟨S4x1x1, .f32⟩
  | .hbm, ⟨20, _⟩ => ⟨S4, .f32⟩
  | .hbm, ⟨21, _⟩ => ⟨S4x1, .f32⟩
  | .hbm, ⟨22, _⟩ => ⟨S4x1x1, .f32⟩
  | .hbm, ⟨23, _⟩ => ⟨S4, .f32⟩
  | .hbm, ⟨24, _⟩ => ⟨S4x1, .f32⟩
  | .hbm, ⟨25, _⟩ => ⟨S512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S4x1x512, .f32⟩
  | .hbm, ⟨35, _⟩ => ⟨S4x512, .f32⟩
  | .hbm, ⟨36, _⟩ => ⟨S4x512, .f32⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S4x512x1, .f32⟩
  | .hbm, ⟨41, _⟩ => ⟨S4x1x511, .f32⟩
  | .hbm, ⟨42, _⟩ => ⟨S4x1x1, .f32⟩
  | .hbm, ⟨43, _⟩ => ⟨S4x1x512, .f32⟩
  | .hbm, ⟨44, _⟩ => ⟨S4x511x1, .f32⟩
  | .hbm, ⟨45, _⟩ => ⟨S4x1x1, .f32⟩
  | .hbm, ⟨46, _⟩ => ⟨S4x512x1, .f32⟩
  | .hbm, ⟨47, _⟩ => ⟨S4x1x1, .f32⟩
  | .hbm, ⟨48, _⟩ => ⟨S4x1x512, .f32⟩
  | .hbm, ⟨49, _⟩ => ⟨S4x1x512, .f32⟩
  | .hbm, ⟨50, _⟩ => ⟨S4x1x1, .f32⟩
  | .hbm, ⟨51, _⟩ => ⟨S4x512x1, .f32⟩
  | .hbm, ⟨52, _⟩ => ⟨S4x512x1, .f32⟩
  | .hbm, ⟨53, _⟩ => ⟨S_, .f32⟩
  | .hbm, ⟨54, _⟩ => ⟨S4x1, .f32⟩
  | .hbm, ⟨55, _⟩ => ⟨S4x1, .f32⟩
  | .hbm, ⟨56, _⟩ => ⟨S4x1x1, .f32⟩
  | .hbm, ⟨57, _⟩ => ⟨S_, .f32⟩
  | .hbm, ⟨58, _⟩ => ⟨S4x1, .f32⟩
  | .hbm, ⟨59, _⟩ => ⟨S4x1, .f32⟩
  | .hbm, ⟨60, _⟩ => ⟨S4x1x1, .f32⟩
  | .hbm, ⟨61, _⟩ => ⟨S512, .i32⟩
  | .hbm, ⟨62, _⟩ => ⟨S1x512, .i32⟩
  | .hbm, ⟨63, _⟩ => ⟨S512, .i32⟩
  | .hbm, ⟨64, _⟩ => ⟨S1x512, .i32⟩
  | .hbm, ⟨65, _⟩ => ⟨S4x1, .i32⟩
  | .hbm, ⟨66, _⟩ => ⟨S4x512, .i32⟩
  | .hbm, ⟨67, _⟩ => ⟨S4x512, .i32⟩
  | .hbm, ⟨68, _⟩ => ⟨S4x512, .i1⟩
  | .hbm, ⟨69, _⟩ => ⟨S4x1, .i32⟩
  | .hbm, ⟨70, _⟩ => ⟨S_, .i32⟩
  | .hbm, ⟨71, _⟩ => ⟨S4x1, .i32⟩
  | .hbm, ⟨72, _⟩ => ⟨S4x1, .i32⟩
  | .hbm, ⟨73, _⟩ => ⟨S4x512, .i32⟩
  | .hbm, ⟨74, _⟩ => ⟨S4x512, .i32⟩
  | .hbm, ⟨75, _⟩ => ⟨S4x512, .i1⟩
  | .hbm, ⟨76, _⟩ => ⟨S4x512, .i1⟩
  | .hbm, ⟨77, _⟩ => ⟨S_, .i32⟩
  | .hbm, ⟨78, _⟩ => ⟨S1x512, .i32⟩
  | .hbm, ⟨79, _⟩ => ⟨S1x512, .i1⟩
  | .hbm, ⟨80, _⟩ => ⟨S4x512, .i1⟩
  | .hbm, ⟨81, _⟩ => ⟨S4x512, .i1⟩
  | .hbm, ⟨82, _⟩ => ⟨S4x512, .f32⟩
  | .hbm, ⟨83, _⟩ => ⟨S4x512x1, .f32⟩
  | .hbm, ⟨84, _⟩ => ⟨S4x1, .i32⟩
  | .hbm, ⟨85, _⟩ => ⟨S4x512, .i32⟩
  | .hbm, ⟨86, _⟩ => ⟨S4x512, .i32⟩
  | .hbm, ⟨87, _⟩ => ⟨S4x512, .i1⟩
  | .hbm, ⟨88, _⟩ => ⟨S4x1, .i32⟩
  | .hbm, ⟨89, _⟩ => ⟨S_, .i32⟩
  | .hbm, ⟨90, _⟩ => ⟨S4x1, .i32⟩
  | .hbm, ⟨91, _⟩ => ⟨S4x1, .i32⟩
  | .hbm, ⟨92, _⟩ => ⟨S4x512, .i32⟩
  | .hbm, ⟨93, _⟩ => ⟨S4x512, .i32⟩
  | .hbm, ⟨94, _⟩ => ⟨S4x512, .i1⟩
  | .hbm, ⟨95, _⟩ => ⟨S4x512, .i1⟩
  | .hbm, ⟨96, _⟩ => ⟨S_, .i32⟩
  | .hbm, ⟨97, _⟩ => ⟨S1x512, .i32⟩
  | .hbm, ⟨98, _⟩ => ⟨S1x512, .i1⟩
  | .hbm, ⟨99, _⟩ => ⟨S4x512, .i1⟩
  | .hbm, ⟨100, _⟩ => ⟨S4x512, .i1⟩
  | .hbm, ⟨101, _⟩ => ⟨S4x512, .f32⟩
  | .hbm, ⟨102, _⟩ => ⟨S4x1x512, .f32⟩
  | .hbm, ⟨103, _⟩ => ⟨S1, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .i8⟩
  | .local _ .vmem, ⟨5, _⟩ => ⟨S1x512x512, .i8⟩
  | .local _ .vmem, ⟨6, _⟩ => ⟨S1x4x512x512, .f32⟩
  | .local _ .vmem, ⟨7, _⟩ => ⟨S1x4x512x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x512x1, .f32⟩
  | .local _ .vmem, ⟨13, _⟩ => ⟨S1x512x1, .f32⟩
  | .local _ .vmem, ⟨14, _⟩ => ⟨S1x512x1, .f32⟩
  | .local _ .vmem, ⟨15, _⟩ => ⟨S1x512x1, .f32⟩
  | .local _ .vmem, ⟨16, _⟩ => ⟨S1x1x512, .f32⟩
  | .local _ .vmem, ⟨17, _⟩ => ⟨S1x1x512, .f32⟩
  | .local _ .vmem, ⟨18, _⟩ => ⟨S1x512x1, .f32⟩
  | .local _ .vmem, ⟨19, _⟩ => ⟨S1x512x1, .f32⟩
  | .local _ .vmem, ⟨20, _⟩ => ⟨S1x1x1, .f32⟩
  | .local _ .vmem, ⟨21, _⟩ => ⟨S1x1x1, .f32⟩
  | .local _ .vmem, ⟨22, _⟩ => ⟨S1x1x1, .f32⟩
  | .local _ .vmem, ⟨23, _⟩ => ⟨S1x1x1, .f32⟩
  | .local _ .vmem, ⟨24, _⟩ => ⟨S1x512x1, .f32⟩
  | .local _ .vmem, ⟨25, _⟩ => ⟨S1x512x1, .f32⟩
  | .local _ .vmem, ⟨26, _⟩ => ⟨S1x1x512, .f32⟩
  | .local _ .vmem, ⟨27, _⟩ => ⟨S1x1x512, .f32⟩
  | .local _ .smem, ⟨0, _⟩ => ⟨S1, .f32⟩
  | .local _ .smem, ⟨1, _⟩ => ⟨S2, .f32⟩
  | _, _ => ⟨S4x1x512x512, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_v33 : Ref sig .tc := ⟨.hbm, 43, rfl⟩
abbrev main_call1_v0 : Ref sig .tc := ⟨.hbm, 44, rfl⟩
abbrev main_call1_v1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_1 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c_2 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_3 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_44 : BitVec 32 := 0#32
  let c14_i32 : BitVec 32 := 14#32
  let v79 : BitVec 32 := Scalar.addi c0_i32_44 c14_i32
  let c1_i32 : BitVec 32 := 1#32
  ⟨c0_i32_44, v79, c1_i32⟩
def k0_cond2 (i : grid0.Coords) : BitVec 1 :=
  let arg0 : BitVec 32 := BitVec.ofNat 32 (i 0).val
  let c3_i32 : BitVec 32 := 3#32
  let v176 : BitVec 1 := Scalar.cmpi .eq arg0 c3_i32
  let v177 : BitVec 32 := Scalar.extui v176
  let c0_i32_85 : BitVec 32 := 0#32
  let v178 : BitVec 1 := Scalar.cmpi .ne v177 c0_i32_85
  v178

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "normal_sq" => some ((126765058482001 / 1267650600228229401496703205376 : ℝ) : EReal)
  | "pred_sq" => some ((5316911940649 / 5316911983139663491615228241121378304 : ℝ) : EReal)
  | _ => none
-- ==== ReferenceIdeal.lean ====
abbrev S4x1x512x512 : Shape := ⟨4, ![4, 1, 512, 512]⟩
abbrev S4 : Shape := ⟨1, ![4]⟩
abbrev S4x4 : Shape := ⟨2, ![4, 4]⟩
abbrev S1x4x4x512x512 : Shape := ⟨5, ![1, 4, 4, 512, 512]⟩
abbrev S4x3x3 : Shape := ⟨3, ![4, 3, 3]⟩
abbrev S4x512x512 : Shape := ⟨3, ![4, 512, 512]⟩
abbrev S512 : Shape := ⟨1, ![512]⟩
abbrev S1x512x1 : Shape := ⟨3, ![1, 512, 1]⟩
abbrev S1x1x512 : Shape := ⟨3, ![1, 1, 512]⟩
abbrev S4x1 : Shape := ⟨2, ![4, 1]⟩
abbrev S4x1x1 : Shape := ⟨3, ![4, 1, 1]⟩
abbrev S4x512x1 : Shape := ⟨3, ![4, 512, 1]⟩
abbrev S_ : Shape := ⟨0, ![]⟩
abbrev S4x1x512 : Shape := ⟨3, ![4, 1, 512]⟩
abbrev S4x512x511 : Shape := ⟨3, ![4, 512, 511]⟩
abbrev S4x511x512 : Shape := ⟨3, ![4, 511, 512]⟩
abbrev S4x262144 : Shape := ⟨2, ![4, 262144]⟩
abbrev S4x4x512x512 : Shape := ⟨4, ![4, 4, 512, 512]⟩
abbrev S1 : Shape := ⟨1, ![1]⟩

abbrev nBuf : Space → Nat
  | .hbm => 338
  | .vmem => 0
  | .smem => 0
  | _ => 0

abbrev hbmTy0_0 (i : Nat) : BufTy := match i % 128 with
  | 0 => ⟨S4x1x512x512, .i1⟩
  | 1 => ⟨S4, .i32⟩
  | 2 => ⟨S4x4, .i32⟩
  | 3 => ⟨S4x1x512x512, .f32⟩
  | 4 => ⟨S4x1x512x512, .f32⟩
  | 5 => ⟨S1x4x4x512x512, .f32⟩
  | 6 => ⟨S4x3x3, .f32⟩
  | 7 => ⟨S4x1x512x512, .i32⟩
  | 8 => ⟨S4x512x512, .f32⟩
  | 9 => ⟨S512, .i32⟩
  | 10 => ⟨S1x512x1, .i32⟩
  | 11 => ⟨S512, .i32⟩
  | 12 => ⟨S1x1x512, .i32⟩
  | 13 => ⟨S4x1, .i32⟩
  | 14 => ⟨S4, .i32⟩
  | 15 => ⟨S4x1x1, .i32⟩
  | 16 => ⟨S4x512x1, .i32⟩
  | 17 => ⟨S4x512x1, .i32⟩
  | 18 => ⟨S4x512x1, .i1⟩
  | 19 => ⟨S4x1, .i32⟩
  | 20 => ⟨S4, .i32⟩
  | 21 => ⟨S4x1x1, .i32⟩
  | 22 => ⟨S_, .i32⟩
  | 23 => ⟨S4x1x1, .i32⟩
  | 24 => ⟨S4x1x1, .i32⟩
  | 25 => ⟨S4x512x1, .i32⟩
  | 26 => ⟨S4x512x1, .i32⟩
  | 27 => ⟨S4x512x1, .i1⟩
  | 28 => ⟨S4x512x1, .i1⟩
  | 29 => ⟨S4x1, .i32⟩
  | 30 => ⟨S4, .i32⟩
  | 31 => ⟨S4x1x1, .i32⟩
  | 32 => ⟨S4x1x512, .i32⟩
  | 33 => ⟨S4x1x512, .i32⟩
  | 34 => ⟨S4x1x512, .i1⟩
  | 35 => ⟨S4x512x512, .i1⟩
  | 36 => ⟨S4x512x512, .i1⟩
  | 37 => ⟨S4x512x512, .i1⟩
  | 38 => ⟨S4x1, .i32⟩
  | 39 => ⟨S4, .i32⟩
  | 40 => ⟨S4x1x1, .i32⟩
  | 41 => ⟨S_, .i32⟩
  | 42 => ⟨S4x1x1, .i32⟩
  | 43 => ⟨S4x1x1, .i32⟩
  | 44 => ⟨S4x1x512, .i32⟩
  | 45 => ⟨S4x1x512, .i32⟩
  | 46 => ⟨S4x1x512, .i1⟩
  | 47 => ⟨S4x512x512, .i1⟩
  | 48 => ⟨S4x512x512, .i1⟩
  | 49 => ⟨S4x1x1, .f32⟩
  | 50 => ⟨S4, .f32⟩
  | 51 => ⟨S4x1x1, .f32⟩
  | 52 => ⟨S4x1x1, .f32⟩
  | 53 => ⟨S4, .f32⟩
  | 54 => ⟨S4x1x1, .f32⟩
  | 55 => ⟨S4x1x1, .f32⟩
  | 56 => ⟨S4, .f32⟩
  | 57 => ⟨S4x1x1, .f32⟩
  | 58 => ⟨S4x1x1, .f32⟩
  | 59 => ⟨S4, .f32⟩
  | 60 => ⟨S4x1x1, .f32⟩
  | 61 => ⟨S512, .f32⟩
  | 62 => ⟨S1x1x512, .f32⟩
  | 63 => ⟨S512, .f32⟩
  | 64 => ⟨S1x512x1, .f32⟩
  | 65 => ⟨S4x1x512, .f32⟩
  | 66 => ⟨S4x1x512, .f32⟩
  | 67 => ⟨S4x1x512, .f32⟩
  | 68 => ⟨S4x1x512, .f32⟩
  | 69 => ⟨S4x1x512, .f32⟩
  | 70 => ⟨S4x512x512, .f32⟩
  | 71 => ⟨S4x512x512, .f32⟩
  | 72 => ⟨S4x512x1, .f32⟩
  | 73 => ⟨S4x512x1, .f32⟩
  | 74 => ⟨S4x512x1, .f32⟩
  | 75 => ⟨S4x512x1, .f32⟩
  | 76 => ⟨S4x512x1, .f32⟩
  | 77 => ⟨S4x512x512, .f32⟩
  | 78 => ⟨S4x512x512, .f32⟩
  | 79 => ⟨S4x512x511, .f32⟩
  | 80 => ⟨S4x512x511, .f32⟩
  | 81 => ⟨S4x512x511, .f32⟩
  | 82 => ⟨S_, .i32⟩
  | 83 => ⟨S_, .f32⟩
  | 84 => ⟨S4x512x512, .f32⟩
  | 85 => ⟨S4x512x511, .f32⟩
  | 86 => ⟨S4x512x511, .f32⟩
  | 87 => ⟨S4x512x511, .f32⟩
  | 88 => ⟨S_, .i32⟩
  | 89 => ⟨S_, .f32⟩
  | 90 => ⟨S4x512x512, .f32⟩
  | 91 => ⟨S4x512x511, .f32⟩
  | 92 => ⟨S4x512x511, .f32⟩
  | 93 => ⟨S4x512x511, .f32⟩
  | 94 => ⟨S_, .i32⟩
  | 95 => ⟨S_, .f32⟩
  | 96 => ⟨S4x512x512, .f32⟩
  | 97 => ⟨S4x511x512, .f32⟩
  | 98 => ⟨S4x511x512, .f32⟩
  | 99 => ⟨S4x511x512, .f32⟩
  | 100 => ⟨S_, .i32⟩
  | 101 => ⟨S_, .f32⟩
  | 102 => ⟨S4x512x512, .f32⟩
  | 103 => ⟨S4x511x512, .f32⟩
  | 104 => ⟨S4x511x512, .f32⟩
  | 105 => ⟨S4x511x512, .f32⟩
  | 106 => ⟨S_, .i32⟩
  | 107 => ⟨S_, .f32⟩
  | 108 => ⟨S4x512x512, .f32⟩
  | 109 => ⟨S4x511x512, .f32⟩
  | 110 => ⟨S4x511x512, .f32⟩
  | 111 => ⟨S4x511x512, .f32⟩
  | 112 => ⟨S_, .i32⟩
  | 113 => ⟨S_, .f32⟩
  | 114 => ⟨S4x512x512, .f32⟩
  | 115 => ⟨S4x512x512, .f32⟩
  | 116 => ⟨S4x512x512, .f32⟩
  | 117 => ⟨S4x512x512, .f32⟩
  | 118 => ⟨S4x512x512, .f32⟩
  | 119 => ⟨S4x512x512, .f32⟩
  | 120 => ⟨S4x512x512, .f32⟩
  | 121 => ⟨S4x512x512, .f32⟩
  | 122 => ⟨S4x512x512, .f32⟩
  | 123 => ⟨S4x512x512, .f32⟩
  | 124 => ⟨S4x512x512, .f32⟩
  | 125 => ⟨S4x512x512, .f32⟩
  | 126 => ⟨S4x512x512, .f32⟩
  | 127 => ⟨S4x512x512, .f32⟩
  | _ => ⟨S4x1x512x512, .i1⟩

abbrev hbmTy0_1 (i : Nat) : BufTy := match i % 128 with
  | 0 => ⟨S4x512x512, .f32⟩
  | 1 => ⟨S4x512x512, .f32⟩
  | 2 => ⟨S_, .f32⟩
  | 3 => ⟨S4x512x512, .f32⟩
  | 4 => ⟨S4x512x512, .i1⟩
  | 5 => ⟨S_, .f32⟩
  | 6 => ⟨S4x512x512, .f32⟩
  | 7 => ⟨S4x512x512, .f32⟩
  | 8 => ⟨S4x512x512, .f32⟩
  | 9 => ⟨S_, .f32⟩
  | 10 => ⟨S_, .f32⟩
  | 11 => ⟨S4x512x512, .f32⟩
  | 12 => ⟨S4x512x512, .f32⟩
  | 13 => ⟨S4x512x512, .f32⟩
  | 14 => ⟨S_, .f32⟩
  | 15 => ⟨S_, .f32⟩
  | 16 => ⟨S4x512x512, .f32⟩
  | 17 => ⟨S4x512x512, .f32⟩
  | 18 => ⟨S4x512x512, .f32⟩
  | 19 => ⟨S_, .f32⟩
  | 20 => ⟨S_, .f32⟩
  | 21 => ⟨S4x512x512, .f32⟩
  | 22 => ⟨S4x512x512, .f32⟩
  | 23 => ⟨S4x512x512, .i1⟩
  | 24 => ⟨S_, .f32⟩
  | 25 => ⟨S4x512x512, .f32⟩
  | 26 => ⟨S4x512x512, .i1⟩
  | 27 => ⟨S4x512x512, .i1⟩
  | 28 => ⟨S4x512x512, .i32⟩
  | 29 => ⟨S_, .i32⟩
  | 30 => ⟨S4x512x512, .i32⟩
  | 31 => ⟨S4x512x512, .i1⟩
  | 32 => ⟨S4x512x512, .i1⟩
  | 33 => ⟨S4x512x512, .f32⟩
  | 34 => ⟨S_, .f32⟩
  | 35 => ⟨S_, .f32⟩
  | 36 => ⟨S4x512x512, .f32⟩
  | 37 => ⟨S4x512x512, .f32⟩
  | 38 => ⟨S4x262144, .f32⟩
  | 39 => ⟨S4x262144, .f32⟩
  | 40 => ⟨S4x1, .f32⟩
  | 41 => ⟨S4, .f32⟩
  | 42 => ⟨S_, .f32⟩
  | 43 => ⟨S4, .f32⟩
  | 44 => ⟨S4, .f32⟩
  | 45 => ⟨S4, .f32⟩
  | 46 => ⟨S_, .f32⟩
  | 47 => ⟨S_, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S_, .f32⟩
  | 55 => ⟨S4, .f32⟩
  | 56 => ⟨S4, .f32⟩
  | 57 => ⟨S4x1x1, .f32⟩
  | 58 => ⟨S4x512x512, .f32⟩
  | 59 => ⟨S4x512x512, .i1⟩
  | 60 => ⟨S_, .f32⟩
  | 61 => ⟨S4x512x512, .f32⟩
  | 62 => ⟨S4x512x512, .i1⟩
  | 63 => ⟨S_, .f32⟩
  | 64 => ⟨S4x512x512, .f32⟩
  | 65 => ⟨S4x512x512, .i1⟩
  | 66 => ⟨S4x512x512, .i1⟩
  | 67 => ⟨S_, .f32⟩
  | 68 => ⟨S4x512x512, .f32⟩
  | 69 => ⟨S4x512x512, .i1⟩
  | 70 => ⟨S4x512x512, .i1⟩
  | 71 => ⟨S4x512x512, .i1⟩
  | 72 => ⟨S4x512x512, .i1⟩
  | 73 => ⟨S4x512x512, .i1⟩
  | 74 => ⟨S4x512x512, .i32⟩
  | 75 => ⟨S_, .i32⟩
  | 76 => ⟨S_, .i32⟩
  | 77 => ⟨S4x4x512x512, .f32⟩
  | 78 => ⟨S4x1x512x512, .f32⟩
  | 79 => ⟨S4x512x512, .f32⟩
  | 80 => ⟨S4x1x512x512, .f32⟩
  | 81 => ⟨S4x512x512, .f32⟩
  | 82 => ⟨S4x1x512x512, .f32⟩
  | 83 => ⟨S4x512x512, .f32⟩
  | 84 => ⟨S4x1x512x512, .f32⟩
  | 85 => ⟨S4x512x512, .f32⟩
  | 86 => ⟨S4x512x512, .f32⟩
  | 87 => ⟨S4x512x512, .f32⟩
  | 88 => ⟨S4x512x512, .f32⟩
  | 89 => ⟨S4x512x512, .f32⟩
  | 90 => ⟨S4x512x512, .f32⟩
  | 91 => ⟨S4x512x512, .f32⟩
  | 92 => ⟨S_, .f32⟩
  | 93 => ⟨S4x512x512, .f32⟩
  | 94 => ⟨S4x512x512, .f32⟩
  | 95 => ⟨S4x512x512, .f32⟩
  | 96 => ⟨S4x512x512, .f32⟩
  | 97 => ⟨S4x512x512, .f32⟩
  | 98 => ⟨S4x512x512, .f32⟩
  | 99 => ⟨S4x512x512, .f32⟩
  | 100 => ⟨S4x512x512, .f32⟩
  | 101 => ⟨S4x512x512, .f32⟩
  | 102 => ⟨S4x512x512, .f32⟩
  | 103 => ⟨S_, .f32⟩
  | 104 => ⟨S_, .f32⟩
  | 105 => ⟨S_, .f32⟩
  | 106 => ⟨S4x512x512, .f32⟩
  | 107 => ⟨S4x512x512, .f32⟩
  | 108 => ⟨S_, .f32⟩
  | 109 => ⟨S4x512x512, .f32⟩
  | 110 => ⟨S4x512x512, .f32⟩
  | 111 => ⟨S4x512x512, .f32⟩
  | 112 => ⟨S_, .f32⟩
  | 113 => ⟨S4x512x512, .f32⟩
  | 114 => ⟨S4x512x512, .f32⟩
  | 115 => ⟨S4x512x512, .f32⟩
  | 116 => ⟨S4x512x512, .f32⟩
  | 117 => ⟨S4x512x512, .f32⟩
  | 118 => ⟨S_, .f32⟩
  | 119 => ⟨S4x512x512, .f32⟩
  | 120 => ⟨S4x512x512, .f32⟩
  | 121 => ⟨S_, .f32⟩
  | 122 => ⟨S4x512x512, .f32⟩
  | 123 => ⟨S4x512x512, .f32⟩
  | 124 => ⟨S4x512x512, .f32⟩
  | 125 => ⟨S_, .f32⟩
  | 126 => ⟨S4x512x512, .f32⟩
  | 127 => ⟨S4x512x512, .f32⟩
  | _ => ⟨S4x1x512x512, .i1⟩

abbrev hbmTy0_2 (i : Nat) : BufTy := match i % 128 with
  | 0 => ⟨S4x512x512, .f32⟩
  | 1 => ⟨S4x512x512, .f32⟩
  | 2 => ⟨S4x512x512, .f32⟩
  | 3 => ⟨S_, .f32⟩
  | 4 => ⟨S4x512x512, .f32⟩
  | 5 => ⟨S4x512x512, .f32⟩
  | 6 => ⟨S4x512x512, .f32⟩
  | 7 => ⟨S4x512x512, .f32⟩
  | 8 => ⟨S4x512x512, .f32⟩
  | 9 => ⟨S_, .f32⟩
  | 10 => ⟨S4x512x512, .f32⟩
  | 11 => ⟨S4x512x512, .f32⟩
  | 12 => ⟨S4x512x512, .f32⟩
  | 13 => ⟨S4x512x512, .f32⟩
  | 14 => ⟨S4x512x512, .f32⟩
  | 15 => ⟨S4x512x512, .f32⟩
  | 16 => ⟨S_, .f32⟩
  | 17 => ⟨S4x512x512, .f32⟩
  | 18 => ⟨S4x512x512, .f32⟩
  | 19 => ⟨S4x512x512, .f32⟩
  | 20 => ⟨S4x512x512, .f32⟩
  | 21 => ⟨S4x512x512, .f32⟩
  | 22 => ⟨S4x512x512, .f32⟩
  | 23 => ⟨S_, .f32⟩
  | 24 => ⟨S4x512x512, .f32⟩
  | 25 => ⟨S4x512x512, .f32⟩
  | 26 => ⟨S4x512x512, .f32⟩
  | 27 => ⟨S4x512x512, .f32⟩
  | 28 => ⟨S4x512x512, .f32⟩
  | 29 => ⟨S4x512x512, .f32⟩
  | 30 => ⟨S4x512x512, .f32⟩
  | 31 => ⟨S_, .f32⟩
  | 32 => ⟨S4x512x512, .f32⟩
  | 33 => ⟨S4x512x512, .f32⟩
  | 34 => ⟨S4x512x512, .f32⟩
  | 35 => ⟨S_, .f32⟩
  | 36 => ⟨S4x512x512, .f32⟩
  | 37 => ⟨S4x512x512, .f32⟩
  | 38 => ⟨S4x512x512, .f32⟩
  | 39 => ⟨S4x512x512, .f32⟩
  | 40 => ⟨S_, .f32⟩
  | 41 => ⟨S4x512x512, .f32⟩
  | 42 => ⟨S4x512x512, .i1⟩
  | 43 => ⟨S_, .f32⟩
  | 44 => ⟨S4x512x512, .f32⟩
  | 45 => ⟨S4x512x512, .f32⟩
  | 46 => ⟨S4x512x512, .f32⟩
  | 47 => ⟨S4x512x512, .f32⟩
  | 48 => ⟨S4x512x512, .f32⟩
  | 49 => ⟨S4x512x512, .f32⟩
  | 50 => ⟨S_, .f32⟩
  | 51 => ⟨S4x512x512, .f32⟩
  | 52 => ⟨S4x512x512, .f32⟩
  | 53 => ⟨S4x512x512, .f32⟩
  | 54 => ⟨S_, .f32⟩
  | 55 => ⟨S4x512x512, .f32⟩
  | 56 => ⟨S4x512x512, .f32⟩
  | 57 => ⟨S4x512x512, .f32⟩
  | 58 => ⟨S4x512x512, .f32⟩
  | 59 => ⟨S4x512x512, .f32⟩
  | 60 => ⟨S4x512x512, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .i32⟩
  | 73 => ⟨S_, .i1⟩
  | 74 => ⟨S_, .f32⟩
  | 75 => ⟨S_, .i1⟩
  | 76 => ⟨S_, .f32⟩
  | 77 => ⟨S_, .f32⟩
  | 78 => ⟨S_, .i1⟩
  | 79 => ⟨S_, .i1⟩
  | 80 => ⟨S_, .f32⟩
  | 81 => ⟨S1, .f32⟩
  | _ => ⟨S4x1x512x512, .i1⟩

abbrev hbmTy (i : Nat) : BufTy := match i / 128 with
  | 0 => hbmTy0_0 i
  | 1 => hbmTy0_1 i
  | 2 => hbmTy0_2 i
  | _ => ⟨S4x1x512x512, .i1⟩

abbrev bufTy : (tb : Table) → Fin (tcTables nBuf tb) → BufTy
  | .hbm, ⟨i, _⟩ => hbmTy i
  | _, _ => ⟨S4x1x512x512, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_c_1 : Ref sig .tc := ⟨.hbm, 82, rfl⟩
abbrev main_call0_v0 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_c_2 : Ref sig .tc := ⟨.hbm, 88, rfl⟩
abbrev main_call1_v0 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_c_3 : Ref sig .tc := ⟨.hbm, 94, rfl⟩
abbrev main_call2_v0 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_c_4 : Ref sig .tc := ⟨.hbm, 100, rfl⟩
abbrev main_call3_v0 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_c_5 : Ref sig .tc := ⟨.hbm, 106, rfl⟩
abbrev main_call4_v0 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_c_6 : Ref sig .tc := ⟨.hbm, 112, rfl⟩
abbrev main_call5_v0 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst : Ref sig .tc := ⟨.hbm, 130, rfl⟩
abbrev main_v108 : Ref sig .tc := ⟨.hbm, 131, rfl⟩
abbrev main_v109 : Ref sig .tc := ⟨.hbm, 132, rfl⟩
abbrev main_cst_7 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_8 : Ref sig .tc := ⟨.hbm, 137, rfl⟩
abbrev main_call6_v0 : Ref sig .tc := ⟨.hbm, 138, rfl⟩
abbrev main_call6_v1 : Ref sig .tc := ⟨.hbm, 139, rfl⟩
abbrev main_v113 : Ref sig .tc := ⟨.hbm, 140, rfl⟩
abbrev main_v114 : Ref sig .tc := ⟨.hbm, 141, rfl⟩
abbrev main_cst_9 : Ref sig .tc := ⟨.hbm, 142, rfl⟩
abbrev main_call7_v0 : Ref sig .tc := ⟨.hbm, 143, rfl⟩
abbrev main_call7_v1 : Ref sig .tc := ⟨.hbm, 144, rfl⟩
abbrev main_v115 : Ref sig .tc := ⟨.hbm, 145, rfl⟩
abbrev main_v116 : Ref sig .tc := ⟨.hbm, 146, rfl⟩
abbrev main_cst_10 : Ref sig .tc := ⟨.hbm, 147, rfl⟩
abbrev main_call8_v0 : Ref sig .tc := ⟨.hbm, 148, rfl⟩
abbrev main_call8_v1 : Ref sig .tc := ⟨.hbm, 149, rfl⟩
abbrev main_v117 : Ref sig .tc := ⟨.hbm, 150, rfl⟩
abbrev main_v118 : Ref sig .tc := ⟨.hbm, 151, rfl⟩
abbrev main_cst_11 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_c_12 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_13 : Ref sig .tc := ⟨.hbm, 162, rfl⟩
abbrev main_call9_v0 : Ref sig .tc := ⟨.hbm, 163, rfl⟩
abbrev main_call9_v1 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_14 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_15 : Ref sig .tc := ⟨.hbm, 174, rfl⟩
abbrev main_cst_16 : Ref sig .tc := ⟨.hbm, 175, rfl⟩
abbrev main_call11_v0 : Ref sig .tc := ⟨.hbm, 176, rfl⟩
abbrev main_call11_v1 : Ref sig .tc := ⟨.hbm, 177, rfl⟩
abbrev main_call11_v2 : Ref sig .tc := ⟨.hbm, 178, rfl⟩
abbrev main_call11_v3 : Ref sig .tc := ⟨.hbm, 179, rfl⟩
abbrev main_call11_v4 : Ref sig .tc := ⟨.hbm, 180, rfl⟩
abbrev main_v135 : Ref sig .tc := ⟨.hbm, 181, rfl⟩
abbrev main_cst_17 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_18 : Ref sig .tc := ⟨.hbm, 188, rfl⟩
abbrev main_v141 : Ref sig .tc := ⟨.hbm, 189, rfl⟩
abbrev main_v142 : Ref sig .tc := ⟨.hbm, 190, rfl⟩
abbrev main_cst_19 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_20 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_c_21 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_22 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_23 : Ref sig .tc := ⟨.hbm, 231, rfl⟩
abbrev main_cst_24 : Ref sig .tc := ⟨.hbm, 232, rfl⟩
abbrev main_call12_v0 : Ref sig .tc := ⟨.hbm, 233, rfl⟩
abbrev main_call12_v1 : Ref sig .tc := ⟨.hbm, 234, rfl⟩
abbrev main_call12_v2 : Ref sig .tc := ⟨.hbm, 235, rfl⟩
abbrev main_call12_v3 : Ref sig .tc := ⟨.hbm, 236, rfl⟩
abbrev main_call12_v4 : Ref sig .tc := ⟨.hbm, 237, rfl⟩
abbrev main_v179 : Ref sig .tc := ⟨.hbm, 238, rfl⟩
abbrev main_v180 : Ref sig .tc := ⟨.hbm, 239, rfl⟩
abbrev main_cst_25 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_cst_26 : Ref sig .tc := ⟨.hbm, 246, rfl⟩
abbrev main_v186 : Ref sig .tc := ⟨.hbm, 247, rfl⟩
abbrev main_v187 : Ref sig .tc := ⟨.hbm, 248, rfl⟩
abbrev main_cst_27 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_cst_28 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_cst_29 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_cst_30 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_cst_31 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_cst_32 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_cst_33 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_cst_34 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_cst_35 : Ref sig .tc := ⟨.hbm, 296, rfl⟩
abbrev main_v227 : Ref sig .tc := ⟨.hbm, 297, rfl⟩
abbrev main_v228 : Ref sig .tc := ⟨.hbm, 298, rfl⟩
abbrev main_cst_36 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_cst_37 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_cst_38 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_cst_39 : Ref sig .tc := ⟨.hbm, 317, rfl⟩
abbrev main_v244 : Ref sig .tc := ⟨.hbm, 318, rfl⟩
abbrev main_cst_40 : Ref sig .tc := ⟨.hbm, 319, rfl⟩
abbrev main_v245 : Ref sig .tc := ⟨.hbm, 320, rfl⟩
abbrev main_cst_41 : Ref sig .tc := ⟨.hbm, 321, rfl⟩
abbrev main_v246 : Ref sig .tc := ⟨.hbm, 322, rfl⟩
abbrev main_v247 : Ref sig .tc := ⟨.hbm, 323, rfl⟩
abbrev main_cst_42 : Ref sig .tc := ⟨.hbm, 324, rfl⟩
abbrev main_v248 : Ref sig .tc := ⟨.hbm, 325, rfl⟩
abbrev main_cst_43 : Ref sig .tc := ⟨.hbm, 326, rfl⟩
abbrev main_v249 : Ref sig .tc := ⟨.hbm, 327, rfl⟩
abbrev main_c_44 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_call15_v0 : Ref sig .tc := ⟨.hbm, 332, rfl⟩
abbrev main_call15_cst : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩

abbrev nD : Nat := 1
abbrev τ : Topo := Topo.v7x

variable {F : FTy → Type} [FloatOps F]
-- ==== Proof.Words.lean ====
/-
  The real numbers that the float literals of the two programs stand for.
-/
module
public import Idealize.ShloMosaic.Lib.Pointwise
@[expose] public section
set_option maxRecDepth 16384
noncomputable section
namespace Cert.Words
open Idealize.ShloMosaic

/-- The reference's 1e-8: the least length of a normal that counts. -/
def tinyN : ℝ := 11258999 / 2 ^ 50
/-- The reference's 1e-12: the least length a prediction is divided by. -/
def tinyP : ℝ := 2305843 / 2 ^ 61
/-- The lower end of the clip. -/
def clipLo : ℝ := -(8388607 / 8388608)
/-- The upper end of the clip. -/
def clipHi : ℝ := 8388607 / 8388608
/-- The float nearest to pi. -/
def piF : ℝ := 13176795 / 4194304

theorem tinyN_pos : 0 < tinyN := by unfold tinyN; positivity
theorem tinyP_pos : 0 < tinyP := by unfold tinyP; positivity

theorem w_tinyN : Ideal.ofBits .f32 0x322BCC77#32 = (tinyN : EReal) := by
  unfold tinyN; simp [Ideal.ofBits, Ideal.ieee, -EReal.coe_mul]; norm_num
theorem w_tinyP : Ideal.ofBits .f32 0x2B8CBCCC#32 = (tinyP : EReal) := by
  unfold tinyP; simp [Ideal.ofBits, Ideal.ieee, -EReal.coe_mul]; norm_num
theorem w_clipLo : Ideal.ofBits .f32 0xBF7FFFFE#32 = (clipLo : EReal) := by
  unfold clipLo; simp [Ideal.ofBits, Ideal.ieee, -EReal.coe_mul]; norm_num
theorem w_clipHi : Ideal.ofBits .f32 0x3F7FFFFE#32 = (clipHi : EReal) := by
  unfold clipHi; simp [Ideal.ofBits, Ideal.ieee, -EReal.coe_mul]; norm_num
theorem w_pi : Ideal.ofBits .f32 0x40490FDB#32 = (piF : EReal) := by
  unfold piF; simp [Ideal.ofBits, Ideal.ieee, -EReal.coe_mul]; norm_num
theorem w_negPi : Ideal.ofBits .f32 0xC0490FDB#32 = ((-piF : ℝ) : EReal) := by
  unfold piF; simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_sample : Ideal.ofBits .f32 0x48333300#32 = ((183500 : ℝ) : EReal) := by
  simp [Ideal.ofBits, Ideal.ieee, -EReal.coe_mul]; norm_num
theorem w_steps : Ideal.ofBits .f32 0x46800000#32 = ((16384 : ℝ) : EReal) := by
  simp [Ideal.ofBits, Ideal.ieee, -EReal.coe_mul]; norm_num
theorem w_lastStep : Ideal.ofBits .f32 0x467FFC00#32 = ((16383 : ℝ) : EReal) := by
  simp [Ideal.ofBits, Ideal.ieee, -EReal.coe_mul]; norm_num
theorem w_ten : Ideal.ofBits .f32 0x41200000#32 = ((10 : ℝ) : EReal) := by
  simp [Ideal.ofBits, Ideal.ieee, -EReal.coe_mul]; norm_num
theorem w_outK : Ideal.ofBits .f32 0xBF800000#32 = ((-1 : ℝ) : EReal) := by
  simp [Ideal.ofBits, Ideal.ieee, -EReal.coe_mul]; norm_num
theorem w_outR : Ideal.ofBits .f32 0xC61C4000#32 = ((-10000 : ℝ) : EReal) := by
  simp [Ideal.ofBits, Ideal.ieee, -EReal.coe_mul]; norm_num
theorem w_inf : Ideal.ofBits .f32 0x7F800000#32 = (⊤ : EReal) := by
  simp [Ideal.ofBits, Ideal.ieee]
theorem w_negInf : Ideal.ofBits .f32 0xFF800000#32 = (⊥ : EReal) := by
  simp [Ideal.ofBits, Ideal.ieee]

/-- The eight coefficients of the arccosine's polynomial are real numbers. -/
theorem w_coeff : ∃ a0 a1 a2 a3 a4 a5 a6 a7 : ℝ,
    Ideal.ofBits .f32 0x3FC90FDA#32 = (a0 : EReal) ∧
    Ideal.ofBits .f32 0xBE5BBFCA#32 = (a1 : EReal) ∧
    Ideal.ofBits .f32 0x3DB63A9E#32 = (a2 : EReal) ∧
    Ideal.ofBits .f32 0xBD4D8392#32 = (a3 : EReal) ∧
    Ideal.ofBits .f32 0x3CFD10F8#32 = (a4 : EReal) ∧
    Ideal.ofBits .f32 0xBC8BFC66#32 = (a5 : EReal) ∧
    Ideal.ofBits .f32 0x3BDA90C5#32 = (a6 : EReal) ∧
    Ideal.ofBits .f32 0xBAA57A2C#32 = (a7 : EReal) := by
  refine ⟨6588397 / 4194304, -7200741 / 33554432, 5971279 / 67108864, -6734281 / 134217728, 2073119 / 67108864, -4587059 / 268435456, 14323909 / 2147483648, -2711179 / 2147483648,
    ?_, ?_, ?_, ?_, ?_, ?_, ?_, ?_⟩ <;>
    (simp [Ideal.ofBits, Ideal.ieee, -EReal.coe_mul]; norm_num)
end Cert.Words
end
-- ==== Proof.Pixel.lean ====
/-
  One pixel's loss, computed in the two ways the programs compute it: the cosine between the prediction and the surface
  normal, its arccosine, and the loss of that angle.
-/
module
public import proofs.«01_k».proof.Proof.Words
@[expose] public section
set_option maxRecDepth 16384
noncomputable section
namespace Cert.Px
open Idealize.ShloMosaic Cert.Words

/-- Dividing by a value other than zero is multiplying by a real number: an infinite divisor has the inverse zero. -/
theorem div_real (x y : EReal) (hy : y ≠ 0) : Ideal.div x y = x * ((y⁻¹).toReal : ℝ) := by
  have : y⁻¹ = ((y⁻¹).toReal : ℝ) := by
    induction y using EReal.rec with
    | bot => simp
    | top => simp
    | coe y => rw [← EReal.coe_inv, EReal.toReal_coe]
  rw [← this]; unfold Ideal.div; rw [if_neg hy]

theorem coe_max (x y : ℝ) : ((max x y : ℝ) : EReal) = max (x : EReal) (y : EReal) :=
  Monotone.map_max (f := fun z : ℝ => (z : EReal)) EReal.coe_strictMono.monotone
theorem coe_min (x y : ℝ) : ((min x y : ℝ) : EReal) = min (x : EReal) (y : EReal) :=
  Monotone.map_min (f := fun z : ℝ => (z : EReal)) EReal.coe_strictMono.monotone

theorem sq_nonneg' (p : EReal) : 0 ≤ p * p := by
  induction p using EReal.rec with
  | bot => simp
  | top => simp
  | coe p => rw [← EReal.coe_mul]; exact_mod_cast mul_self_nonneg p

/-- The squared length of a prediction with an infinite component is infinite. -/
theorem sum_top {a b c : EReal} (ha : 0 ≤ a) (hb : 0 ≤ b) (hc : 0 ≤ c) (h : a = ⊤ ∨ b = ⊤ ∨ c = ⊤) : a + b + c = ⊤ := by
  have nb : ∀ {z : EReal}, 0 ≤ z → z ≠ ⊥ := fun {z} hz e => by rw [e] at hz; simp at hz
  rcases h with h | h | h <;> subst h
  · rw [EReal.top_add_of_ne_bot (nb hb), EReal.top_add_of_ne_bot (nb hc)]
  · rw [EReal.add_top_of_ne_bot (nb ha), EReal.top_add_of_ne_bot (nb hc)]
  · exact EReal.add_top_of_ne_bot (nb (add_nonneg ha hb))

theorem real_or_top (p : EReal) : (∃ q : ℝ, p = q) ∨ p * p = ⊤ := by
  induction p using EReal.rec with
  | bot => simp
  | top => simp
  | coe p => exact .inl ⟨p, rfl⟩

/-- The prediction's length, kept from zero. -/
def plen (p0 p1 p2 : EReal) : EReal := max (Ideal.sqrt (p0 * p0 + p1 * p1 + p2 * p2)) (tinyP : ℝ)

/-- The cosine between the prediction and the normal `g`, both made of unit length. -/
def cosine (p0 p1 p2 : EReal) (g0 g1 g2 : ℝ) : EReal :=
  Ideal.div p0 (plen p0 p1 p2) * ((g0 / √(g0 * g0 + g1 * g1 + g2 * g2) : ℝ) : EReal)
    + Ideal.div p1 (plen p0 p1 p2) * ((g1 / √(g0 * g0 + g1 * g1 + g2 * g2) : ℝ) : EReal)
    + Ideal.div p2 (plen p0 p1 p2) * ((g2 / √(g0 * g0 + g1 * g1 + g2 * g2) : ℝ) : EReal)

/-- The kernel divides the product of the two by the root of the product of their squared lengths. -/
theorem cosine_eq (p0 p1 p2 : EReal) (g0 g1 g2 : ℝ) (hn : tinyN ^ 2 < g0 * g0 + g1 * g1 + g2 * g2) :
    (p0 * (g0 : EReal) + p1 * (g1 : EReal) + p2 * (g2 : EReal))
      * Ideal.rsqrt (max (p0 * p0 + p1 * p1 + p2 * p2) ((tinyP ^ 2 : ℝ) : EReal)
          * max (((g0 * g0 + g1 * g1 + g2 * g2 : ℝ)) : EReal) ((tinyN ^ 2 : ℝ) : EReal))
      = cosine p0 p1 p2 g0 g1 g2 := by
  have hN : 0 < g0 * g0 + g1 * g1 + g2 * g2 := lt_of_le_of_lt (sq_nonneg _) hn
  have hm : max (((g0 * g0 + g1 * g1 + g2 * g2 : ℝ)) : EReal) ((tinyN ^ 2 : ℝ) : EReal)
      = ((g0 * g0 + g1 * g1 + g2 * g2 : ℝ) : EReal) := max_eq_left (by exact_mod_cast hn.le)
  rw [hm]
  unfold cosine plen
  have inf : (p0 * p0 + p1 * p1 + p2 * p2 = ⊤) → (p0 * (g0 : EReal) + p1 * (g1 : EReal) + p2 * (g2 : EReal))
      * Ideal.rsqrt (max (p0 * p0 + p1 * p1 + p2 * p2) ((tinyP ^ 2 : ℝ) : EReal)
          * ((g0 * g0 + g1 * g1 + g2 * g2 : ℝ) : EReal))
      = Ideal.div p0 (max (Ideal.sqrt (p0 * p0 + p1 * p1 + p2 * p2)) (tinyP : ℝ)) * ((g0 / √(g0 * g0 + g1 * g1 + g2 * g2) : ℝ) : EReal)
      + Ideal.div p1 (max (Ideal.sqrt (p0 * p0 + p1 * p1 + p2 * p2)) (tinyP : ℝ)) * ((g1 / √(g0 * g0 + g1 * g1 + g2 * g2) : ℝ) : EReal)
      + Ideal.div p2 (max (Ideal.sqrt (p0 * p0 + p1 * p1 + p2 * p2)) (tinyP : ℝ)) * ((g2 / √(g0 * g0 + g1 * g1 + g2 * g2) : ℝ) : EReal) := by
    intro h
    rw [h, Ideal.sqrt_top, max_eq_left le_top, max_eq_left le_top, EReal.top_mul_coe_of_pos hN, Ideal.rsqrt_top]
    unfold Ideal.div
    simp
  have tops := sum_top (sq_nonneg' p0) (sq_nonneg' p1) (sq_nonneg' p2)
  rcases real_or_top p0 with ⟨q0, rfl⟩ | h
  on_goal 2 => exact inf (tops (.inl h))
  rcases real_or_top p1 with ⟨q1, rfl⟩ | h
  on_goal 2 => exact inf (tops (.inr (.inl h)))
  rcases real_or_top p2 with ⟨q2, rfl⟩ | h
  on_goal 2 => exact inf (tops (.inr (.inr h)))
  clear inf tops
  have hQ : 0 ≤ q0 * q0 + q1 * q1 + q2 * q2 := by nlinarith [mul_self_nonneg q0, mul_self_nonneg q1, mul_self_nonneg q2]
  set Q := q0 * q0 + q1 * q1 + q2 * q2 with hQd
  set N := g0 * g0 + g1 * g1 + g2 * g2 with hNd
  have eQ : ((q0 : EReal) * q0 + (q1 : EReal) * q1 + (q2 : EReal) * q2) = (Q : EReal) := by simp only [hQd, ← EReal.coe_mul, ← EReal.coe_add]
  have hP : 0 < max (√Q) tinyP := lt_max_of_lt_right tinyP_pos
  have root : √(max Q (tinyP ^ 2)) = max (√Q) tinyP := by
    rw [Monotone.map_max (f := Real.sqrt) fun _ _ h => Real.sqrt_le_sqrt h, Real.sqrt_sq tinyP_pos.le]
  have eP : max (Ideal.sqrt (Q : EReal)) (tinyP : EReal) = ((max (√Q) tinyP : ℝ) : EReal) := by
    rw [Ideal.sqrt_coe, if_neg (not_lt.mpr hQ), coe_max]
  have eR : Ideal.rsqrt (max (Q : EReal) ((tinyP ^ 2 : ℝ) : EReal) * (N : EReal)) = (((max (√Q) tinyP * √N)⁻¹ : ℝ) : EReal) := by
    have pos : 0 < max Q (tinyP ^ 2) * N := mul_pos (lt_max_of_lt_right (pow_pos tinyP_pos 2)) hN
    rw [← coe_max, ← EReal.coe_mul, Ideal.rsqrt_coe, if_neg (not_lt.mpr pos.le), if_neg pos.ne',
      Real.sqrt_mul (lt_max_of_lt_right (pow_pos tinyP_pos 2)).le, root]
  rw [eQ, eP, eR, Ideal.div_coe hP.ne', Ideal.div_coe hP.ne', Ideal.div_coe hP.ne']
  have hs : √N ≠ 0 := (Real.sqrt_pos.mpr hN).ne'
  simp only [← EReal.coe_mul, ← EReal.coe_add]
  congr 1
  have := hP.ne'
  generalize max (√Q) tinyP = L at *
  field_simp

/-- A value cut to the range of the cosines is a real number of that range. -/
theorem clip_real (e : EReal) : ∃ s : ℝ, min (clipHi : EReal) (max (clipLo : EReal) e) = s ∧ clipLo ≤ s ∧ s ≤ clipHi := by
  have h : clipLo ≤ clipHi := by norm_num [clipLo, clipHi]
  induction e using EReal.rec with
  | bot => exact ⟨clipLo, by rw [max_eq_left bot_le, min_eq_right (by exact_mod_cast h)], le_rfl, h⟩
  | top => exact ⟨clipHi, by rw [max_eq_right le_top, min_eq_left le_top], h, le_rfl⟩
  | coe e =>
    refine ⟨min clipHi (max clipLo e), ?_, le_min h (le_max_left _ _), min_le_left _ _⟩
    rw [coe_min, coe_max]

theorem absf_real (s : ℝ) : FloatOps.absf (F := Ideal) (φ := .f32) (s : EReal) = ((|s| : ℝ) : EReal) := by
  show max (s : EReal) (-(s : EReal)) = _
  rw [← EReal.coe_neg, ← coe_max, abs_eq_max_neg]

theorem abs_le_one {s : ℝ} (h0 : clipLo ≤ s) (h1 : s ≤ clipHi) : 0 ≤ 1 - |s| := by
  have : |s| ≤ 1 := abs_le.mpr ⟨le_trans (by norm_num [clipLo]) h0, le_trans h1 (by norm_num [clipHi])⟩
  linarith

/-- The loss at a pixel, of its concentration `k` and its angle `A`. -/
def angleLoss (k : EReal) (A : ℝ) : EReal :=
  -Ideal.log (k * k + 1) + k * (A : EReal) + Ideal.log (1 + Ideal.exp (-k * (piF : EReal)))

/-- The kernel takes one logarithm of the quotient. -/
theorem angleLoss_eq (k : EReal) (A : ℝ) :
    Ideal.log (Ideal.div (1 + Ideal.exp (k * ((-piF : ℝ) : EReal))) (k * k + 1)) + k * (A : EReal) = angleLoss k A := by
  have hpi : 0 < piF := by norm_num [piF]
  have t1 : (⊤ : EReal) + 1 = ⊤ := EReal.top_add_coe 1
  have t2 : 1 + (⊤ : EReal) = ⊤ := EReal.coe_add_top 1
  have l0 : Ideal.log (0 : EReal) = ⊥ := by
    show Ideal.log ((0 : ℝ) : EReal) = ⊥
    rw [Ideal.log_coe, if_pos le_rfl]
  have l1 : Ideal.log (⊤ : EReal) = ⊤ := Ideal.log_top
  unfold angleLoss
  induction k using EReal.rec with
  | bot =>
    simp only [EReal.neg_bot]
    have e1 : (⊥ : EReal) * ((-piF : ℝ) : EReal) = ⊤ := EReal.bot_mul_coe_of_neg (by linarith)
    have e2 : (⊤ : EReal) * (piF : EReal) = ⊤ := EReal.top_mul_coe_of_pos hpi
    rw [e1, e2]
    simp [Ideal.div, t1, t2, l0, l1]
  | top =>
    simp only [EReal.neg_top]
    have e1 : (⊤ : EReal) * ((-piF : ℝ) : EReal) = ⊥ := EReal.top_mul_coe_of_neg (by linarith)
    have e2 : (⊥ : EReal) * (piF : EReal) = ⊥ := EReal.bot_mul_coe_of_pos hpi
    rw [e1, e2]
    simp [Ideal.div, t1, t2, l0, l1]
  | coe k =>
    have one : (1 : EReal) = ((1 : ℝ) : EReal) := rfl
    rw [one, ← EReal.coe_neg, ← EReal.coe_mul, ← EReal.coe_mul, ← EReal.coe_mul, ← EReal.coe_mul, Ideal.exp_coe, Ideal.exp_coe]
    simp only [← EReal.coe_add]
    have hk : 0 < k * k + 1 := by nlinarith [mul_self_nonneg k]
    have ee : k * -piF = -k * piF := by ring
    rw [ee]
    have he : 0 < 1 + Real.exp (-k * piF) := by positivity
    rw [Ideal.div_coe hk.ne', ← EReal.coe_mul]
    have hq : 0 < (1 + Real.exp (-k * piF)) * (1 / (k * k + 1)) := by positivity
    rw [Ideal.log_coe, Ideal.log_coe, Ideal.log_coe, if_neg (not_le.mpr hq), if_neg (not_le.mpr hk), if_neg (not_le.mpr he),
      ← EReal.coe_neg]
    simp only [← EReal.coe_add]
    congr 1
    rw [Real.log_mul he.ne' (by positivity), one_div, Real.log_inv]
    ring
end Cert.Px
end
-- ==== Proof.Arccos.lean ====
/-
  The arccosine of the clipped cosine: the kernel's nested polynomial and the reference's sum of powers are one real number.
-/
module
public import proofs.«01_k».proof.Proof.Pixel
@[expose] public section
set_option maxRecDepth 16384
noncomputable section
namespace Cert.Px
open Idealize.ShloMosaic Cert.Words

/-- The arccosine of `e` as the kernel computes it. -/
def angleK (e : EReal) : EReal :=
  let t : EReal := FloatOps.absf (F := Ideal) (φ := .f32) e
  let q : EReal := Ideal.sqrt (max (1 - t) 0) *
    (((((((Ideal.ofBits .f32 0xBAA57A2C#32 * t + Ideal.ofBits .f32 0x3BDA90C5#32) * t + Ideal.ofBits .f32 0xBC8BFC66#32) * t
      + Ideal.ofBits .f32 0x3CFD10F8#32) * t + Ideal.ofBits .f32 0xBD4D8392#32) * t + Ideal.ofBits .f32 0x3DB63A9E#32) * t
      + Ideal.ofBits .f32 0xBE5BBFCA#32) * t + Ideal.ofBits .f32 0x3FC90FDA#32)
  if 0 ≤ e then q else Ideal.ofBits .f32 0x40490FDB#32 - q

/-- The arccosine of `e` as the reference computes it. -/
def angleR (e : EReal) : EReal :=
  let t : EReal := FloatOps.absf (F := Ideal) (φ := .f32) e
  let q : EReal := Ideal.sqrt (1 - t) *
    (Ideal.ofBits .f32 0x3FC90FDA#32 + Ideal.ofBits .f32 0xBE5BBFCA#32 * t + Ideal.ofBits .f32 0x3DB63A9E#32 * (t * t)
      + Ideal.ofBits .f32 0xBD4D8392#32 * (t * t * t) + Ideal.ofBits .f32 0x3CFD10F8#32 * (t * t * (t * t))
      + Ideal.ofBits .f32 0xBC8BFC66#32 * (t * (t * t * (t * t))) + Ideal.ofBits .f32 0x3BDA90C5#32 * (t * t * (t * t * (t * t)))
      + Ideal.ofBits .f32 0xBAA57A2C#32 * (t * (t * t) * (t * t * (t * t))))
  if e < 0 then Ideal.ofBits .f32 0x40490FDB#32 - q else q

theorem angle_eq (s : ℝ) (h0 : clipLo ≤ s) (h1 : s ≤ clipHi) : ∃ A : ℝ, angleK s = A ∧ angleR s = A := by
  have h := abs_le_one h0 h1
  obtain ⟨a0, a1, a2, a3, a4, a5, a6, a7, e0, e1, e2, e3, e4, e5, e6, e7⟩ := w_coeff
  have one : (1 : EReal) = ((1 : ℝ) : EReal) := rfl
  have mx : max ((1 - |s| : ℝ) : EReal) 0 = ((1 - |s| : ℝ) : EReal) := max_eq_left (by exact_mod_cast h)
  unfold angleK angleR
  simp only [absf_real, e0, e1, e2, e3, e4, e5, e6, e7, w_pi]
  rw [one, ← EReal.coe_sub, mx, Ideal.sqrt_coe, if_neg (not_lt.mpr h)]
  simp only [← EReal.coe_mul, ← EReal.coe_add, ← EReal.coe_sub]
  by_cases hs : s < 0
  · have h1 : ((s : ℝ) : EReal) < 0 := by exact_mod_cast hs
    rw [if_pos h1, if_neg (not_le.mpr h1)]
    refine ⟨_, rfl, ?_⟩
    congr 1
    ring
  · have h1 : ¬ ((s : ℝ) : EReal) < 0 := by exact_mod_cast hs
    rw [if_neg h1, if_pos (not_lt.mp h1)]
    refine ⟨_, rfl, ?_⟩
    congr 1
    ring
end Cert.Px
end
-- ==== Proof.Geometry.lean ====
/-
  One image as the programs take it, its surface normals over the real numbers, and the pixels that may be sampled.
-/
module
public import proofs.«01_k».proof.Proof.Pixel
@[expose] public section
set_option maxRecDepth 16384
noncomputable section
namespace Cert.Px
open Idealize.ShloMosaic Cert.Words

/-- One image of the batch: depths, confidences, labels, the four predicted channels, focal lengths, the principal point and
the four pads. -/
structure Img where
  D : Fin 512 → Fin 512 → EReal
  C : Fin 512 → Fin 512 → EReal
  S : Fin 512 → Fin 512 → BitVec 32
  Q : Fin 4 → Fin 512 → Fin 512 → EReal
  fx : EReal
  fy : EReal
  cx : EReal
  cy : EReal
  p : Fin 4 → BitVec 32

/-- What the precondition says of an image. -/
structure Img.Fine (g : Img) : Prop where
  d : ∀ r c, ∃ z : ℝ, g.D r c = z
  fx : g.fx ≠ 0
  fy : g.fy ≠ 0
  cx : ∃ z : ℝ, g.cx = z
  cy : ∃ z : ℝ, g.cy = z
  s : ∀ r c, 0 ≤ (g.S r c).toInt ∧ (g.S r c).toInt < 150

namespace Img
variable (g : Img)

/-- A depth, an inverse focal length, and a pixel's place relative to the principal point, as real numbers. -/
def d (r c : Fin 512) : ℝ := (g.D r c).toReal
def ix : ℝ := (g.fx⁻¹).toReal
def iy : ℝ := (g.fy⁻¹).toReal
def a (c : Nat) : ℝ := ((c : ℝ) - g.cx.toReal) * g.ix
def b (r : Nat) : ℝ := ((r : ℝ) - g.cy.toReal) * g.iy

/-- The normal at a pixel with depth `d`, `dc` its right neighbour's, `dr` its lower neighbour's. -/
def m0 (d dc dr : ℝ) : ℝ := (dc * dr - d * dr) * (-g.iy)
def m1 (d dc dr : ℝ) : ℝ := (dc * dr - d * dc) * (-g.ix)
def m2 (r c : Nat) (d dc dr : ℝ) : ℝ :=
  (g.a (c + 1) * g.b (r + 1) - g.a c * g.b r) * (dc * dr) - g.b r * g.ix * (d * dc) - g.a c * g.iy * (d * dr)

/-- The three components of the normal, zero in the last row and the last column. -/
def N0 (r c : Fin 512) : ℝ := if h : r.val < 511 ∧ c.val < 511 then
  g.m0 (g.d r c) (g.d r ⟨1 + c.val, by omega⟩) (g.d ⟨1 + r.val, by omega⟩ c) else 0
def N1 (r c : Fin 512) : ℝ := if h : r.val < 511 ∧ c.val < 511 then
  g.m1 (g.d r c) (g.d r ⟨1 + c.val, by omega⟩) (g.d ⟨1 + r.val, by omega⟩ c) else 0
def N2 (r c : Fin 512) : ℝ := if h : r.val < 511 ∧ c.val < 511 then
  g.m2 r.val c.val (g.d r c) (g.d r ⟨1 + c.val, by omega⟩) (g.d ⟨1 + r.val, by omega⟩ c) else 0
/-- The normal's squared length. -/
def NN (r c : Fin 512) : ℝ := g.N0 r c * g.N0 r c + g.N1 r c * g.N1 r c + g.N2 r c * g.N2 r c

/-- The pixel lies inside the pads. -/
def Inside (r c : Fin 512) : Prop :=
  (IntOp.cmpi .sge (BitVec.ofNat 32 r.val) (g.p 0) = 1#1 ∧ IntOp.cmpi .slt (BitVec.ofNat 32 r.val) (IntOp.subi 512#32 (g.p 1)) = 1#1)
    ∧ (IntOp.cmpi .sge (BitVec.ofNat 32 c.val) (g.p 2) = 1#1 ∧ IntOp.cmpi .slt (BitVec.ofNat 32 c.val) (IntOp.subi 512#32 (g.p 3)) = 1#1)

/-- The pixel may be sampled: its normal is long enough, it lies inside the pads, it has a depth, it is not sky. -/
def Ok (r c : Fin 512) : Prop := tinyN ^ 2 < g.NN r c ∧ g.Inside r c ∧ 0 < g.D r c ∧ g.S r c ≠ 142#32

/-- The level `l` of confidence samples the pixel. -/
def Sampled (l : EReal) (r c : Fin 512) : Prop := g.Ok r c ∧ l ≤ g.C r c

/-- The clipped cosine and the loss at a pixel. -/
def cosine (r c : Fin 512) : EReal := min (clipHi : EReal) (max (clipLo : EReal)
  (Px.cosine (g.Q 0 r c) (g.Q 1 r c) (g.Q 2 r c) (g.N0 r c) (g.N1 r c) (g.N2 r c)))
end Img

theorem coe_sub' (x y : ℝ) : (x : EReal) - (y : EReal) = ((x - y : ℝ) : EReal) := (EReal.coe_sub x y).symm

variable {g : Img} (hg : g.Fine)
include hg

theorem Img.Fine.D_eq (r c : Fin 512) : g.D r c = (g.d r c : EReal) := by
  obtain ⟨z, h⟩ := hg.d r c
  unfold Img.d; rw [h, EReal.toReal_coe]

theorem Img.Fine.a_eq (c : Nat) : Ideal.div (((c : ℝ) : EReal) - g.cx) g.fx = (g.a c : EReal) := by
  obtain ⟨z, h⟩ := hg.cx
  rw [div_real _ _ hg.fx, h, ← EReal.coe_sub, ← EReal.coe_mul]
  unfold Img.a; rw [h, EReal.toReal_coe]; rfl
theorem Img.Fine.b_eq (r : Nat) : Ideal.div (((r : ℝ) : EReal) - g.cy) g.fy = (g.b r : EReal) := by
  obtain ⟨z, h⟩ := hg.cy
  rw [div_real _ _ hg.fy, h, ← EReal.coe_sub, ← EReal.coe_mul]
  unfold Img.b; rw [h, EReal.toReal_coe]; rfl

omit hg in
theorem a_succ (c : Nat) : g.a (c + 1) = g.a c + g.ix := by unfold Img.a; push_cast; ring
omit hg in
theorem b_succ (r : Nat) : g.b (r + 1) = g.b r + g.iy := by unfold Img.b; push_cast; ring

omit hg in
/-- The cross product of the two differences of neighbouring points, as the reference takes it. -/
theorem cross0 (r : Nat) (d dc dr : ℝ) :
    (g.b r * dc - g.b r * d) * (dr - d) - (dc - d) * (g.b (r + 1) * dr - g.b r * d) = g.m0 d dc dr := by
  rw [b_succ]; unfold Img.m0; ring
omit hg in
theorem cross1 (c : Nat) (d dc dr : ℝ) :
    (dc - d) * (g.a c * dr - g.a c * d) - (g.a (c + 1) * dc - g.a c * d) * (dr - d) = g.m1 d dc dr := by
  rw [a_succ]; unfold Img.m1; ring
omit hg in
theorem cross2 (r c : Nat) (d dc dr : ℝ) :
    (g.a (c + 1) * dc - g.a c * d) * (g.b (r + 1) * dr - g.b r * d) - (g.b r * dc - g.b r * d) * (g.a c * dr - g.a c * d)
      = g.m2 r c d dc dr := by
  unfold Img.m2; rw [a_succ, b_succ]; ring

/-- Cutting a label of the range to eight bits keeps whether it is sky. -/
theorem Img.Fine.sky (r c : Fin 512) : BitVec.setWidth 8 (g.S r c) = 142#8 ↔ g.S r c = 142#32 := by
  obtain ⟨h0, h1⟩ := hg.s r c
  generalize g.S r c = s at *
  have hs : s.toNat < 150 := by
    rw [BitVec.toInt_eq_toNat_cond] at h0 h1
    have := s.isLt
    split at h0 <;> omega
  constructor
  · intro h
    have := congrArg BitVec.toNat h
    simp only [BitVec.toNat_setWidth] at this
    apply BitVec.eq_of_toNat_eq
    have e : (142#8).toNat = 142 := rfl
    have e' : (142#32).toNat = 142 := rfl
    omega
  · rintro rfl; rfl
end Cert.Px
end
-- ==== Proof.PixelLoss.lean ====
/-
  The loss at a pixel of an image.
-/
module
public import proofs.«01_k».proof.Proof.Arccos
public import proofs.«01_k».proof.Proof.Geometry
@[expose] public section
set_option maxRecDepth 16384
noncomputable section
namespace Cert.Px
open Idealize.ShloMosaic Cert.Words
variable (g : Img)

/-- The loss at a pixel: the concentration is the prediction's fourth channel. -/
def Img.loss (r c : Fin 512) : EReal :=
  -Ideal.log (g.Q 3 r c * g.Q 3 r c + 1) + g.Q 3 r c * angleR (g.cosine r c) + Ideal.log (1 + Ideal.exp (-g.Q 3 r c * (piF : EReal)))

theorem Img.loss_kernel (r c : Fin 512) :
    Ideal.log (Ideal.div (1 + Ideal.exp (g.Q 3 r c * Ideal.ofBits .f32 0xC0490FDB#32)) (g.Q 3 r c * g.Q 3 r c + 1))
      + g.Q 3 r c * angleK (g.cosine r c) = g.loss r c := by
  obtain ⟨s, hs, h0, h1⟩ := clip_real (Px.cosine (g.Q 0 r c) (g.Q 1 r c) (g.Q 2 r c) (g.N0 r c) (g.N1 r c) (g.N2 r c))
  obtain ⟨A, hK, hR⟩ := angle_eq s h0 h1
  have hc : g.cosine r c = s := hs
  unfold Img.loss
  rw [hc, hK, hR, w_negPi]
  exact angleLoss_eq _ A
end Cert.Px
end
-- ==== Proof.Bits.lean ====
/-
  One-bit words as propositions.
-/
module
public import proofs.«01_k».proof.Proof.Words
public import Idealize.ShloMosaic.Lib.WordArith
@[expose] public section
set_option maxRecDepth 16384
noncomputable section
namespace Cert.Bits
open Idealize.ShloMosaic Idealize.ShloMosaic.WordArith Cert.Words

theorem and_iff (a b : BitVec 1) : IntOp.andi a b = 1#1 ↔ a = 1#1 ∧ b = 1#1 := by revert a b; decide
theorem not_iff (a : BitVec 1) : ~~~a = 1#1 ↔ ¬ a = 1#1 := by revert a; decide
theorem ofBool_iff (P : Prop) [Decidable P] : BitVec.ofBool (decide P) = 1#1 ↔ P := by
  rw [ofBool_eq_one_iff, decide_eq_true_iff]
theorem ne_iff {w : Nat} (a b : BitVec w) : IntOp.cmpi .ne a b = 1#1 ↔ a ≠ b := by
  show BitVec.ofBool (a != b) = 1#1 ↔ _
  rw [ofBool_eq_one_iff, bne_iff_ne]
theorem slt_iff (a b : BitVec 32) : IntOp.cmpi .slt a b = 1#1 ↔ a.toInt < b.toInt := by
  show BitVec.ofBool (BitVec.slt a b) = 1#1 ↔ _
  rw [ofBool_eq_one_iff, BitVec.slt_iff_toInt_lt]
theorem sge_iff (a b : BitVec 32) : IntOp.cmpi .sge a b = 1#1 ↔ b.toInt ≤ a.toInt := by
  show BitVec.ofBool (BitVec.sle b a) = 1#1 ↔ _
  rw [ofBool_eq_one_iff, BitVec.sle_iff_toInt_le]

/-- The index words of the image are below 511 exactly where the numbers are. -/
theorem slt_edge (r : Fin 512) : IntOp.cmpi .slt (BitVec.ofNat 32 r.val) 511#32 = 1#1 ↔ r.val < 511 := by
  rw [slt_iff, toInt_ofNat_small _ (by have := r.isLt; omega), show (511#32).toInt = 511 from rfl]; omega

/-- A word read as a float is its number. -/
theorem sitofp_nat (n : Nat) (h : n < 2 ^ 31) :
    (FloatOps.sitofp .f32 (BitVec.ofNat 32 n) : Ideal .f32) = (((n : ℝ)) : EReal) := by
  show ((((BitVec.ofNat 32 n).toInt : ℝ)) : EReal) = _
  rw [toInt_ofNat_small _ h]; simp

/-- A bit read as a float. -/
theorem uitofp_bit (b : BitVec 1) : (FloatOps.uitofp .f32 b : Ideal .f32) = if b = 1#1 then (1 : EReal) else 0 := by
  show (((b.toNat : ℝ)) : EReal) = _
  rcases BitVec.eq_zero_or_eq_one b with rfl | rfl <;> simp

theorem half_lt (a b : BitVec 1) :
    Ideal.ofBits .f32 0x3F000000#32 < (FloatOps.uitofp .f32 a : Ideal .f32) * (FloatOps.uitofp .f32 b : Ideal .f32) ↔ a = 1#1 ∧ b = 1#1 := by
  rw [uitofp_bit, uitofp_bit, w_half]
  by_cases ha : a = 1#1 <;> by_cases hb : b = 1#1 <;> simp [ha, hb]
  · exact_mod_cast (by norm_num : (2 : ℝ)⁻¹ < 1)
  all_goals exact_mod_cast (by norm_num : (0 : ℝ) ≤ 2⁻¹)
end Cert.Bits
end
-- ==== Proof.RefNormal.lean ====
/-
  The reference's normals, mask and clipped cosine, at a pixel, over the image it belongs to.
-/
module
public import proofs.«01_k».proof.Proof.Gen.ReferenceIdeal.Run
public import proofs.«01_k».proof.Proof.PixelLoss
public import proofs.«01_k».proof.Proof.Bits
@[expose] public section
set_option maxRecDepth 16384
noncomputable section
namespace Cert.RefRead
open Cert.ReferenceIdeal Cert.ReferenceIdeal.Gen Cert.ReferenceIdeal.Value Idealize.ShloMosaic Idealize.ShloMosaic.TcCoe Idealize.SL.Sem Idealize.ShloMosaic.StableHlo Cert.Px Cert.Words Cert.Bits
variable (V0 : Valuation τ sig (Elt Ideal))

/-- Image `b` of the arguments. -/
def img (b : Fin 4) : Img where
  D i j := (V0 (Proc.tc.devRef main_arg3) : Vec Ideal S4x1x512x512 .f32) (ix4 b 0 i j)
  C i j := (V0 (Proc.tc.devRef main_arg4) : Vec Ideal S4x1x512x512 .f32) (ix4 b 0 i j)
  S i j := (V0 (Proc.tc.devRef main_arg7) : Vec Ideal S4x1x512x512 .i32) (ix4 b 0 i j)
  Q k i j := (V0 (Proc.tc.devRef main_arg5) : Vec Ideal S1x4x4x512x512 .f32) (ix5 0 b k i j)
  fx := (V0 (Proc.tc.devRef main_arg6) : Vec Ideal S4x3x3 .f32) (ix3 b 0 0)
  fy := (V0 (Proc.tc.devRef main_arg6) : Vec Ideal S4x3x3 .f32) (ix3 b 1 1)
  cx := (V0 (Proc.tc.devRef main_arg6) : Vec Ideal S4x3x3 .f32) (ix3 b 0 2)
  cy := (V0 (Proc.tc.devRef main_arg6) : Vec Ideal S4x3x3 .f32) (ix3 b 1 2)
  p k := (V0 (Proc.tc.devRef main_arg2) : Vec Ideal S4x4 .i32) (ix2 b k)

variable {V0} {b : Fin 4} (hg : (img V0 b).Fine) (r c : Fin 512)

theorem zero_word : (FloatOps.sitofp .f32 0#32 : Ideal .f32) = 0 := by
  rw [show (0#32 : BitVec 32) = BitVec.ofNat 32 0 from rfl, sitofp_nat 0 (by norm_num)]; simp

section
include hg

theorem x_eq : (res_main_v61 V0 : Vec Ideal S4x512x512 .f32) (ix3 b r c) = (((img V0 b).a c.val * (img V0 b).d r c : ℝ) : EReal) := by
  pointwise [res_main_v61, res_main_v0]
  rw [sitofp_nat _ (by have := c.isLt; omega)]
  exact (congrArg₂ (· * ·) (hg.a_eq c.val) (hg.D_eq r c)).trans (EReal.coe_mul _ _).symm
theorem y_eq : (res_main_v68 V0 : Vec Ideal S4x512x512 .f32) (ix3 b r c) = (((img V0 b).b r.val * (img V0 b).d r c : ℝ) : EReal) := by
  pointwise [res_main_v68, res_main_v0]
  rw [sitofp_nat _ (by have := r.isLt; omega)]
  exact (congrArg₂ (· * ·) (hg.b_eq r.val) (hg.D_eq r c)).trans (EReal.coe_mul _ _).symm
theorem z_eq : (res_main_v0 V0 : Vec Ideal S4x512x512 .f32) (ix3 b r c) = ((img V0 b).d r c : EReal) := by
  pointwise [res_main_v0]
  exact hg.D_eq r c

theorem xc_eq (h : c.val < 511) : (res_main_v72 V0 : Vec Ideal S4x512x512 .f32) (ix3 b r c)
    = (((img V0 b).a (c.val + 1) * (img V0 b).d r ⟨1 + c.val, by omega⟩ - (img V0 b).a c.val * (img V0 b).d r c : ℝ) : EReal) := by
  rw [Nat.add_comm c.val 1]
  pointwise [res_main_v72]
  rw [dif_pos h, x_eq hg, x_eq hg, ← EReal.coe_sub]
theorem yc_eq (h : c.val < 511) : (res_main_v76 V0 : Vec Ideal S4x512x512 .f32) (ix3 b r c)
    = (((img V0 b).b r.val * (img V0 b).d r ⟨1 + c.val, by omega⟩ - (img V0 b).b r.val * (img V0 b).d r c : ℝ) : EReal) := by
  pointwise [res_main_v76]
  rw [dif_pos h, y_eq hg, y_eq hg, ← EReal.coe_sub]
theorem zc_eq (h : c.val < 511) : (res_main_v80 V0 : Vec Ideal S4x512x512 .f32) (ix3 b r c)
    = (((img V0 b).d r ⟨1 + c.val, by omega⟩ - (img V0 b).d r c : ℝ) : EReal) := by
  pointwise [res_main_v80]
  rw [dif_pos h, z_eq hg, z_eq hg, ← EReal.coe_sub]
theorem xr_eq (h : r.val < 511) : (res_main_v84 V0 : Vec Ideal S4x512x512 .f32) (ix3 b r c)
    = (((img V0 b).a c.val * (img V0 b).d ⟨1 + r.val, by omega⟩ c - (img V0 b).a c.val * (img V0 b).d r c : ℝ) : EReal) := by
  pointwise [res_main_v84]
  rw [dif_pos h, x_eq hg, x_eq hg, ← EReal.coe_sub]
theorem yr_eq (h : r.val < 511) : (res_main_v88 V0 : Vec Ideal S4x512x512 .f32) (ix3 b r c)
    = (((img V0 b).b (r.val + 1) * (img V0 b).d ⟨1 + r.val, by omega⟩ c - (img V0 b).b r.val * (img V0 b).d r c : ℝ) : EReal) := by
  rw [Nat.add_comm r.val 1]
  pointwise [res_main_v88]
  rw [dif_pos h, y_eq hg, y_eq hg, ← EReal.coe_sub]
theorem zr_eq (h : r.val < 511) : (res_main_v92 V0 : Vec Ideal S4x512x512 .f32) (ix3 b r c)
    = (((img V0 b).d ⟨1 + r.val, by omega⟩ c - (img V0 b).d r c : ℝ) : EReal) := by
  pointwise [res_main_v92]
  rw [dif_pos h, z_eq hg, z_eq hg, ← EReal.coe_sub]

omit hg in
theorem xc_edge (h : ¬ c.val < 511) : (res_main_v72 V0 : Vec Ideal S4x512x512 .f32) (ix3 b r c) = (0 : EReal) := by
  pointwise [res_main_v72]
  rw [dif_neg h, zero_word]
omit hg in
theorem yc_edge (h : ¬ c.val < 511) : (res_main_v76 V0 : Vec Ideal S4x512x512 .f32) (ix3 b r c) = (0 : EReal) := by
  pointwise [res_main_v76]
  rw [dif_neg h, zero_word]
omit hg in
theorem zc_edge (h : ¬ c.val < 511) : (res_main_v80 V0 : Vec Ideal S4x512x512 .f32) (ix3 b r c) = (0 : EReal) := by
  pointwise [res_main_v80]
  rw [dif_neg h, zero_word]
omit hg in
theorem xr_edge (h : ¬ r.val < 511) : (res_main_v84 V0 : Vec Ideal S4x512x512 .f32) (ix3 b r c) = (0 : EReal) := by
  pointwise [res_main_v84]
  rw [dif_neg h, zero_word]
omit hg in
theorem yr_edge (h : ¬ r.val < 511) : (res_main_v88 V0 : Vec Ideal S4x512x512 .f32) (ix3 b r c) = (0 : EReal) := by
  pointwise [res_main_v88]
  rw [dif_neg h, zero_word]
omit hg in
theorem zr_edge (h : ¬ r.val < 511) : (res_main_v92 V0 : Vec Ideal S4x512x512 .f32) (ix3 b r c) = (0 : EReal) := by
  pointwise [res_main_v92]
  rw [dif_neg h, zero_word]

omit hg in
/-- A component of the cross product in the last row or the last column. -/
theorem edge {x y z w : EReal} (h : (x = 0 ∧ z = 0) ∨ (y = 0 ∧ w = 0)) : x * y - z * w = ((0 : ℝ) : EReal) := by
  rcases h with ⟨rfl, rfl⟩ | ⟨rfl, rfl⟩ <;> simp

theorem n0_eq : (res_main_v95 V0 : Vec Ideal S4x512x512 .f32) (ix3 b r c) = ((img V0 b).N0 r c : EReal) := by
  pointwise [res_main_v95]
  unfold Img.N0
  by_cases hr : r.val < 511
  · by_cases hc : c.val < 511
    · rw [dif_pos ⟨hr, hc⟩, ← cross0 r.val, yc_eq hg r c hc, zr_eq hg r c hr, zc_eq hg r c hc, yr_eq hg r c hr]
      simp only [← EReal.coe_mul, ← EReal.coe_sub]
    · rw [dif_neg fun h => hc h.2]; exact edge (.inl ⟨yc_edge r c hc, zc_edge r c hc⟩)
  · rw [dif_neg fun h => hr h.1]; exact edge (.inr ⟨zr_edge r c hr, yr_edge r c hr⟩)
theorem n1_eq : (res_main_v98 V0 : Vec Ideal S4x512x512 .f32) (ix3 b r c) = ((img V0 b).N1 r c : EReal) := by
  pointwise [res_main_v98]
  unfold Img.N1
  by_cases hr : r.val < 511
  · by_cases hc : c.val < 511
    · rw [dif_pos ⟨hr, hc⟩, ← cross1 c.val, zc_eq hg r c hc, xr_eq hg r c hr, xc_eq hg r c hc, zr_eq hg r c hr]
      simp only [← EReal.coe_mul, ← EReal.coe_sub]
    · rw [dif_neg fun h => hc h.2]; exact edge (.inl ⟨zc_edge r c hc, xc_edge r c hc⟩)
  · rw [dif_neg fun h => hr h.1]; exact edge (.inr ⟨xr_edge r c hr, zr_edge r c hr⟩)
theorem n2_eq : (res_main_v101 V0 : Vec Ideal S4x512x512 .f32) (ix3 b r c) = ((img V0 b).N2 r c : EReal) := by
  pointwise [res_main_v101]
  unfold Img.N2
  by_cases hr : r.val < 511
  · by_cases hc : c.val < 511
    · rw [dif_pos ⟨hr, hc⟩, ← cross2 r.val c.val, xc_eq hg r c hc, yr_eq hg r c hr, yc_eq hg r c hc, xr_eq hg r c hr]
      simp only [← EReal.coe_mul, ← EReal.coe_sub]
    · rw [dif_neg fun h => hc h.2]; exact edge (.inl ⟨xc_edge r c hc, yc_edge r c hc⟩)
  · rw [dif_neg fun h => hr h.1]; exact edge (.inr ⟨yr_edge r c hr, xr_edge r c hr⟩)

omit hg in
theorem NN_nonneg {g : Img} (r c : Fin 512) : 0 ≤ g.NN r c := by
  unfold Img.NN; nlinarith [mul_self_nonneg (g.N0 r c), mul_self_nonneg (g.N1 r c), mul_self_nonneg (g.N2 r c)]

theorem len_eq : (res_main_v107 V0 : Vec Ideal S4x512x512 .f32) (ix3 b r c) = ((√((img V0 b).NN r c) : ℝ) : EReal) := by
  pointwise [res_main_v107]
  rw [n0_eq hg, n1_eq hg, n2_eq hg]
  simp only [← EReal.coe_mul, ← EReal.coe_add]
  rw [Ideal.sqrt_coe]
  exact if_neg (not_lt.mpr (NN_nonneg (g := img V0 b) r c))

omit hg in
theorem long_iff {g : Img} : tinyN < √(g.NN r c) ↔ tinyN ^ 2 < g.NN r c := Real.lt_sqrt tinyN_pos.le

theorem long_bit : (res_main_v109 V0 : IVec S4x512x512 1) (ix3 b r c) = 1#1 ↔ tinyN ^ 2 < (img V0 b).NN r c := by
  have e : (res_main_v109 V0 : IVec S4x512x512 1) (ix3 b r c)
      = BitVec.ofBool (decide (Ideal.ofBits .f32 0x322BCC77#32 < (res_main_v107 V0 : Vec Ideal S4x512x512 .f32) (ix3 b r c))) := by
    pointwise [res_main_v109]
  rw [e, ofBool_iff, len_eq hg, w_tinyN, EReal.coe_lt_coe_iff, long_iff]

/-- Component by component, the normal of unit length. -/
theorem unit_of (z : ℝ) (h : tinyN ^ 2 < (img V0 b).NN r c) :
    Ideal.div (z : EReal) ((res_main_v111 V0 : Vec Ideal S4x512x512 .f32) (ix3 b r c)) = ((z / √((img V0 b).NN r c) : ℝ) : EReal) := by
  have h' := (long_iff r c).mpr h
  have e : (res_main_v111 V0 : Vec Ideal S4x512x512 .f32) (ix3 b r c) = ((√((img V0 b).NN r c) : ℝ) : EReal) := by
    pointwise [res_main_v111]
    rw [len_eq hg, w_tinyN, max_eq_left (by exact_mod_cast h'.le)]
  rw [e, Ideal.div_coe (tinyN_pos.trans h').ne', ← EReal.coe_mul]
  congr 1; ring
theorem u0_eq (h : tinyN ^ 2 < (img V0 b).NN r c) : (res_main_v113 V0 : Vec Ideal S4x512x512 .f32) (ix3 b r c) = (((img V0 b).N0 r c / √((img V0 b).NN r c) : ℝ) : EReal) := by
  pointwise [res_main_v113]
  rw [(long_bit hg r c).mpr h, n0_eq hg]
  exact unit_of hg r c _ h
theorem u1_eq (h : tinyN ^ 2 < (img V0 b).NN r c) : (res_main_v115 V0 : Vec Ideal S4x512x512 .f32) (ix3 b r c) = (((img V0 b).N1 r c / √((img V0 b).NN r c) : ℝ) : EReal) := by
  pointwise [res_main_v115]
  rw [(long_bit hg r c).mpr h, n1_eq hg]
  exact unit_of hg r c _ h
theorem u2_eq (h : tinyN ^ 2 < (img V0 b).NN r c) : (res_main_v117 V0 : Vec Ideal S4x512x512 .f32) (ix3 b r c) = (((img V0 b).N2 r c / √((img V0 b).NN r c) : ℝ) : EReal) := by
  pointwise [res_main_v117]
  rw [(long_bit hg r c).mpr h, n2_eq hg]
  exact unit_of hg r c _ h

omit hg in
/-- The reference's mask, over the image's own arrays. -/
theorem mask_word : (res_main_v125 V0 : IVec S4x512x512 1) (ix3 b r c) = IntOp.andi (IntOp.andi (IntOp.andi ((res_main_v109 V0 : IVec S4x512x512 1) (ix3 b r c))
      (IntOp.andi (IntOp.andi (IntOp.andi (IntOp.cmpi .sge (BitVec.ofNat 32 r.val) ((img V0 b).p 0)) (IntOp.cmpi .slt (BitVec.ofNat 32 r.val) (IntOp.subi 512#32 ((img V0 b).p 1))))
        (IntOp.cmpi .sge (BitVec.ofNat 32 c.val) ((img V0 b).p 2))) (IntOp.cmpi .slt (BitVec.ofNat 32 c.val) (IntOp.subi 512#32 ((img V0 b).p 3)))))
      (BitVec.ofBool (decide (0 < (img V0 b).D r c)))) (IntOp.cmpi .ne ((img V0 b).S r c) 142#32) := by
  unfold img
  pointwise [res_main_v125, res_main_v2, res_main_v4, res_main_v0]

/-- Where the reference's mask holds. -/
theorem mask_iff : (res_main_v125 V0 : IVec S4x512x512 1) (ix3 b r c) = 1#1 ↔ (img V0 b).Ok r c := by
  rw [mask_word, and_iff, and_iff, and_iff, and_iff, and_iff, and_iff, long_bit hg, ofBool_iff, Bits.ne_iff]
  unfold Img.Ok Img.Inside
  exact ⟨fun ⟨⟨⟨h, ⟨⟨h0, h1⟩, h2⟩, h3⟩, h4⟩, h5⟩ => ⟨h, ⟨⟨h0, h1⟩, h2, h3⟩, h4, h5⟩,
    fun ⟨h, ⟨⟨h0, h1⟩, h2, h3⟩, h4, h5⟩ => ⟨⟨⟨h, ⟨⟨h0, h1⟩, h2⟩, h3⟩, h4⟩, h5⟩⟩

/-- Where the mask holds, the normal is not zero. -/
theorem unit_ne (h : tinyN ^ 2 < (img V0 b).NN r c) :
    ¬ (((res_main_v113 V0 : Vec Ideal S4x512x512 .f32) (ix3 b r c) = (0 : EReal) ∧ (res_main_v115 V0 : Vec Ideal S4x512x512 .f32) (ix3 b r c) = (0 : EReal))
      ∧ (res_main_v117 V0 : Vec Ideal S4x512x512 .f32) (ix3 b r c) = (0 : EReal)) := by
  rw [u0_eq hg r c h, u1_eq hg r c h, u2_eq hg r c h]
  rintro ⟨⟨h0, h1⟩, h2⟩
  have hs : √((img V0 b).NN r c) ≠ 0 := (tinyN_pos.trans ((long_iff r c).mpr h)).ne'
  have z : ∀ {y : ℝ}, ((y / √((img V0 b).NN r c) : ℝ) : EReal) = 0 → y = 0 := fun {y} e => by
    have e : y / √((img V0 b).NN r c) = 0 := by exact_mod_cast e
    exact (div_eq_zero_iff.mp e).resolve_right hs
  have : (img V0 b).NN r c = 0 := by unfold Img.NN; rw [z h0, z h1, z h2]; ring
  rw [this] at h
  exact absurd h (not_lt.mpr (by positivity))

/-- The reference's clipped cosine where the mask holds. -/
theorem cos_eq (h : (img V0 b).Ok r c) : (res_main_v179 V0 : Vec Ideal S4x512x512 .f32) (ix3 b r c) = (img V0 b).cosine r c := by
  have hp : (res_main_v170 V0 : Vec Ideal S4x512x512 .f32) (ix3 b r c) = plen ((img V0 b).Q 0 r c) ((img V0 b).Q 1 r c) ((img V0 b).Q 2 r c) := by
    pointwise [res_main_v170, res_main_v156, res_main_v158, res_main_v160, res_main_v154]
    rw [w_tinyP]; rfl
  pointwise [res_main_v179]
  rw [u0_eq hg r c h.1, u1_eq hg r c h.1, u2_eq hg r c h.1, hp]
  pointwise [res_main_v156, res_main_v158, res_main_v160, res_main_v154]
  rw [show id (constant (F := Ideal) S_ .f32 0x3F7FFFFE#32) ix0 = (clipHi : EReal) from w_clipHi,
    show id (constant (F := Ideal) S_ .f32 0xBF7FFFFE#32) ix0 = (clipLo : EReal) from w_clipLo]
  rfl
end
end Cert.RefRead
end
-- ==== Proof.Blocks.lean ====
/-
  What one grid point of the kernel computes from the blocks it reads: the masked loss it adds to the running total and
  the number of sampled pixels it adds to the running count.
-/
module
public import proofs.«01_k».proof.Proof.Gen.KernelIdeal.Value
public import Idealize.ShloMosaic.Lib.Pointwise
@[expose] public section
set_option maxRecDepth 16384
noncomputable section
namespace Cert.KernelIdeal.Step
open Cert.KernelIdeal Cert.KernelIdeal.Gen Idealize.ShloMosaic

/-- The fourteen blocks a grid point reads. -/
structure Blocks where
  d : Vec Ideal S1x512x512 .f32
  conf : Vec Ideal S1x512x512 .f32
  sem : Vec Ideal S1x512x512 .i8
  pred : Vec Ideal S1x4x512x512 .f32
  aw : Vec Ideal S1x1x512 .f32
  awp : Vec Ideal S1x1x512 .f32
  bh : Vec Ideal S1x512x1 .f32
  bhp : Vec Ideal S1x512x1 .f32
  awf : Vec Ideal S1x1x512 .f32
  bhf : Vec Ideal S1x512x1 .f32
  nifx : Vec Ideal S1x1x1 .f32
  nify : Vec Ideal S1x1x1 .f32
  rowok : Vec Ideal S1x512x1 .f32
  colok : Vec Ideal S1x1x512 .f32

variable (x : Blocks)

/-- The three components of the surface normal, scaled by the pixel's depths and not yet of unit length. -/
def n0 : FVec Ideal S512x512 .f32 := k0_pay18 (k0_pay12 x.nify) (k0_pay13 x.d) (k0_pay14 x.d) (k0_pay16 x.d)
def n1 : FVec Ideal S512x512 .f32 := k0_pay19 (k0_pay11 x.nifx) (k0_pay13 x.d) (k0_pay14 x.d) (k0_pay15 x.d)
def n2 : FVec Ideal S512x512 .f32 :=
  k0_pay20 (k0_pay5 x.aw) (k0_pay6 x.awp) (k0_pay7 x.bh) (k0_pay8 x.bhp) (k0_pay9 x.awf) (k0_pay10 x.bhf) (k0_pay13 x.d)
    (k0_pay14 x.d) (k0_pay15 x.d) (k0_pay16 x.d)
/-- The normal's squared length. -/
def nn : FVec Ideal S512x512 .f32 :=
  k0_pay21 (k0_pay5 x.aw) (k0_pay6 x.awp) (k0_pay7 x.bh) (k0_pay8 x.bhp) (k0_pay9 x.awf) (k0_pay10 x.bhf) (k0_pay11 x.nifx)
    (k0_pay12 x.nify) (k0_pay13 x.d) (k0_pay14 x.d) (k0_pay15 x.d) (k0_pay16 x.d)
/-- The pixels that may be sampled. -/
def valid : IVec S512x512 1 :=
  k0_pay22 (k0_pay4 x.d) (k0_pay5 x.aw) (k0_pay6 x.awp) (k0_pay7 x.bh) (k0_pay8 x.bhp) (k0_pay9 x.awf) (k0_pay10 x.bhf)
    (k0_pay11 x.nifx) (k0_pay12 x.nify) (k0_pay13 x.d) (k0_pay14 x.d) (k0_pay15 x.d) (k0_pay16 x.d) x.rowok x.colok x.sem

/-- One step of the bisection, on the pair of its ends. -/
def halve (v : IVec S512x512 1) (y : Vec Ideal S1x512x512 .f32) (p : EReal × EReal) : EReal × EReal :=
  (k0_pay25 (F := Ideal) v y p.1 p.2, k0_pay26 (F := Ideal) v y p.1 p.2)

/-- The threshold: the lower end the bisection is left with. -/
def level (v : IVec S512x512 1) (y : Vec Ideal S1x512x512 .f32) : EReal :=
  (Scf.fold (n := k0_t1_loop.trips) (fun _ p => halve v y p)
    ((FloatOps.ofBits (F := Ideal) .f32 0x00000000#32 : EReal), (FloatOps.ofBits (F := Ideal) .f32 0x3F800000#32 : EReal))).1

/-- One at the sampled pixels, zero at the others. -/
def picked : FVec Ideal S512x512 .f32 := k0_pay27 (valid x) x.conf (level (valid x) x.conf)

/-- The channels of the prediction. -/
def ch0 : Vec Ideal S1x1x512x512 .f32 := View.ld x.pred (Rect.unit ![0, 0, 0, 0] ![1, 1, 512, 512] inb_S1x4x512x512_S1x1x512x512_0_0_0_0)
def ch1 : Vec Ideal S1x1x512x512 .f32 := View.ld x.pred (Rect.unit ![0, 1, 0, 0] ![1, 1, 512, 512] inb_S1x4x512x512_S1x1x512x512_0_1_0_0)
def ch2 : Vec Ideal S1x1x512x512 .f32 := View.ld x.pred (Rect.unit ![0, 2, 0, 0] ![1, 1, 512, 512] inb_S1x4x512x512_S1x1x512x512_0_2_0_0)
def ch3 : Vec Ideal S1x1x512x512 .f32 := View.ld x.pred (Rect.unit ![0, 3, 0, 0] ![1, 1, 512, 512] inb_S1x4x512x512_S1x1x512x512_0_3_0_0)

/-- The prediction times the unscaled normal, and the prediction's squared length, kept from zero. -/
def pdn : FVec Ideal S512x512 .f32 := k0_pay32 (n0 x) (n1 x) (n2 x) (ch0 x) (ch1 x) (ch2 x)
def pp : FVec Ideal S512x512 .f32 := k0_pay33 (ch0 x) (ch1 x) (ch2 x)

/-- The running total after the grid point, over the one before it. -/
def addLoss (a : EReal) : EReal :=
  k0_pay1 (F := Ideal) (picked x) (k0_pay31 (ch3 x)) (k0_pay35 (nn x) (pdn x) (pp x) k0_pay34) (k0_pay36 (k0_pay31 (ch3 x)))
    (k0_pay38 (nn x) (pdn x) (pp x) k0_pay34) (k0_pay39 (nn x) (pdn x) (pp x) k0_pay34) a
/-- The running count after the grid point, over the one before it. -/
def addCount (a : EReal) : EReal := k0_pay2 (F := Ideal) (picked x) a
/-- The pair of running sums after the grid point. -/
def next (s : Vec Ideal S2 .f32) : Vec Ideal S2 .f32 := fun j =>
  if (j 0).val = 0 then addLoss x (s (ix1 0)) else addCount x (s (ix1 1))
end Cert.KernelIdeal.Step
end
-- ==== Proof.KernelRead.lean ====
/-
  What a grid point of the kernel adds to its two sums, over the image it reads.
-/
module
public import proofs.«01_k».proof.Proof.Blocks
public import proofs.«01_k».proof.Proof.PixelLoss
public import proofs.«01_k».proof.Proof.Bits
@[expose] public section
set_option maxRecDepth 16384
noncomputable section
namespace Cert.KernelIdeal.Step
open Cert.KernelIdeal Cert.KernelIdeal.Gen Idealize.ShloMosaic Cert.Px Cert.Words Cert.Bits

/-- The blocks hold the image's values, and what the host computes of its intrinsics and pads. -/
structure Reads (x : Blocks) (g : Img) : Prop where
  d : ∀ r c, x.d (ix3 0 r c) = g.D r c
  conf : ∀ r c, x.conf (ix3 0 r c) = g.C r c
  sem : ∀ r c, x.sem (ix3 0 r c) = BitVec.setWidth 8 (g.S r c)
  pred : ∀ k r c, x.pred (ix4 0 k r c) = g.Q k r c
  aw : ∀ c : Fin 512, x.aw (ix3 0 0 c) = Ideal.div (((c.val : ℝ) : EReal) - g.cx) g.fx
  awp : ∀ c : Fin 512, c.val < 511 → x.awp (ix3 0 0 c) = Ideal.div ((((c.val + 1 : Nat) : ℝ) : EReal) - g.cx) g.fx
  bh : ∀ r : Fin 512, x.bh (ix3 0 r 0) = Ideal.div (((r.val : ℝ) : EReal) - g.cy) g.fy
  bhp : ∀ r : Fin 512, r.val < 511 → x.bhp (ix3 0 r 0) = Ideal.div ((((r.val + 1 : Nat) : ℝ) : EReal) - g.cy) g.fy
  awf : ∀ c : Fin 512, x.awf (ix3 0 0 c) = Ideal.div (Ideal.div (((c.val : ℝ) : EReal) - g.cx) g.fx) g.fy
  bhf : ∀ r : Fin 512, x.bhf (ix3 0 r 0) = Ideal.div (Ideal.div (((r.val : ℝ) : EReal) - g.cy) g.fy) g.fx
  nifx : x.nifx (ix3 0 0 0) = Ideal.div (Ideal.ofBits .f32 0xBF800000#32) g.fx
  nify : x.nify (ix3 0 0 0) = Ideal.div (Ideal.ofBits .f32 0xBF800000#32) g.fy
  rowok : ∀ r : Fin 512, x.rowok (ix3 0 r 0) = (FloatOps.uitofp .f32 (IntOp.andi
    (IntOp.andi (IntOp.cmpi .sge (BitVec.ofNat 32 r.val) (g.p 0)) (IntOp.cmpi .slt (BitVec.ofNat 32 r.val) (IntOp.subi 512#32 (g.p 1))))
    (IntOp.cmpi .slt (BitVec.ofNat 32 r.val) 511#32)) : Ideal .f32)
  colok : ∀ c : Fin 512, x.colok (ix3 0 0 c) = (FloatOps.uitofp .f32 (IntOp.andi
    (IntOp.andi (IntOp.cmpi .sge (BitVec.ofNat 32 c.val) (g.p 2)) (IntOp.cmpi .slt (BitVec.ofNat 32 c.val) (IntOp.subi 512#32 (g.p 3))))
    (IntOp.cmpi .slt (BitVec.ofNat 32 c.val) 511#32)) : Ideal .f32)

theorem named_normal : (Named.named κ "normal_sq" (φ := .f32) 0x24E69595#32 : Ideal .f32) = ((tinyN ^ 2 : ℝ) : EReal) := by
  show ((126765058482001 / 1267650600228229401496703205376 : ℝ) : EReal) = _
  congr 1
  norm_num [tinyN]
theorem named_pred : (Named.named κ "pred_sq" (φ := .f32) 0x179ABE15#32 : Ideal .f32) = ((tinyP ^ 2 : ℝ) : EReal) := by
  show ((5316911940649 / 5316911983139663491615228241121378304 : ℝ) : EReal) = _
  congr 1
  norm_num [tinyP]

variable {x : Blocks} {g : Img} (hx : Reads x g) (hg : g.Fine)

section normal
variable (r c : Fin 512) (hr : r.val < 511) (hc : c.val < 511)
include hx hg hr hc

theorem next_a : x.awp (ix3 0 0 c) = (g.a (c.val + 1) : EReal) := by rw [hx.awp c hc, hg.a_eq]
theorem next_b : x.bhp (ix3 0 r 0) = (g.b (r.val + 1) : EReal) := by rw [hx.bhp r hr, hg.b_eq]

omit hr hc in
theorem inv_x (y : EReal) : Ideal.div y g.fx = y * (g.ix : EReal) := div_real _ _ hg.fx
omit hr hc in
theorem inv_y (y : EReal) : Ideal.div y g.fy = y * (g.iy : EReal) := div_real _ _ hg.fy

theorem n0_eq : n0 x (ix2 r c) = (g.N0 r c : EReal) := by
  pointwise [n0, k0_pay18, k0_pay12, k0_pay13, k0_pay14, k0_pay16, k0_pay17, k0_pay4]
  rw [dif_pos hr, dif_pos hc, hx.nify, hx.d, hx.d, hx.d, hg.D_eq, hg.D_eq, hg.D_eq, inv_y hx hg, w_outK]
  simp only [← EReal.coe_mul, ← EReal.coe_sub]
  unfold Img.N0; rw [dif_pos ⟨hr, hc⟩]
  congr 1; unfold Img.m0; ring
theorem n1_eq : n1 x (ix2 r c) = (g.N1 r c : EReal) := by
  pointwise [n1, k0_pay19, k0_pay11, k0_pay13, k0_pay14, k0_pay15, k0_pay17, k0_pay4]
  rw [dif_pos hr, dif_pos hc, hx.nifx, hx.d, hx.d, hx.d, hg.D_eq, hg.D_eq, hg.D_eq, inv_x hx hg, w_outK]
  simp only [← EReal.coe_mul, ← EReal.coe_sub]
  unfold Img.N1; rw [dif_pos ⟨hr, hc⟩]
  congr 1; unfold Img.m1; ring
theorem n2_eq : n2 x (ix2 r c) = (g.N2 r c : EReal) := by
  pointwise [n2, k0_pay20, k0_pay5, k0_pay6, k0_pay7, k0_pay8, k0_pay9, k0_pay10, k0_pay15, k0_pay17, k0_pay13, k0_pay14, k0_pay16, k0_pay4]
  rw [dif_pos hr, dif_pos hc, hx.d, hx.d, hx.d, hg.D_eq, hg.D_eq, hg.D_eq, next_a hx hg r c hr hc, next_b hx hg r c hr hc,
    hx.awf, hx.bhf, hx.aw, hx.bh, inv_x hx hg (Ideal.div _ g.fy), inv_y hx hg (Ideal.div _ g.fx), hg.a_eq, hg.b_eq]
  simp only [← EReal.coe_mul, ← EReal.coe_sub]
  unfold Img.N2; rw [dif_pos ⟨hr, hc⟩]
  congr 1
theorem nn_eq : nn x (ix2 r c) = (g.NN r c : EReal) := by
  have e : nn x (ix2 r c) = n0 x (ix2 r c) * n0 x (ix2 r c) + n1 x (ix2 r c) * n1 x (ix2 r c) + n2 x (ix2 r c) * n2 x (ix2 r c) := by
    pointwise [nn, k0_pay21]
    rfl
  rw [e, n0_eq hx hg r c hr hc, n1_eq hx hg r c hr hc, n2_eq hx hg r c hr hc]
  simp only [← EReal.coe_mul, ← EReal.coe_add]
  rfl
end normal

/-- The long normals are the ones of pixels with both neighbours. -/
theorem inner_of_long {g : Img} {r c : Fin 512} (h : tinyN ^ 2 < g.NN r c) : r.val < 511 ∧ c.val < 511 := by
  by_contra hn
  have : g.NN r c = 0 := by unfold Img.NN Img.N0 Img.N1 Img.N2; rw [dif_neg hn, dif_neg hn, dif_neg hn]; ring
  rw [this] at h
  exact absurd h (not_lt.mpr (by positivity))

include hx hg

/-- The kernel's mask. -/
theorem valid_iff (r c : Fin 512) : valid x (ix2 r c) = 1#1 ↔ g.Ok r c := by
  have e : valid x (ix2 r c) = IntOp.andi (IntOp.andi (IntOp.andi
      (BitVec.ofBool (decide ((Named.named κ "normal_sq" (φ := .f32) 0x24E69595#32 : Ideal .f32) < nn x (ix2 r c))))
      (BitVec.ofBool (decide (Ideal.ofBits .f32 0x3F000000#32 < x.rowok (ix3 0 r 0) * x.colok (ix3 0 0 c)))))
      (BitVec.ofBool (decide (0 < x.d (ix3 0 r c))))) (IntOp.cmpi .ne (x.sem (ix3 0 r c)) 142#8) := by
    pointwise [valid, k0_pay22, k0_pay4]
    rfl
  rw [e, and_iff, and_iff, and_iff, ofBool_iff, ofBool_iff, ofBool_iff, Bits.ne_iff, hx.rowok, hx.colok, half_lt, and_iff, and_iff, and_iff,
    and_iff, slt_edge, slt_edge, hx.d, hx.sem, Ne, hg.sky, named_normal]
  unfold Img.Ok Img.Inside
  constructor
  · rintro ⟨⟨⟨h, ⟨⟨a, hr⟩, b, hc⟩⟩, hd⟩, hs⟩
    rw [nn_eq hx hg r c hr hc] at h
    exact ⟨by exact_mod_cast h, ⟨a, b⟩, hd, hs⟩
  · rintro ⟨h, ⟨a, b⟩, hd, hs⟩
    obtain ⟨hr, hc⟩ := inner_of_long h
    rw [nn_eq hx hg r c hr hc]
    exact ⟨⟨⟨by exact_mod_cast h, ⟨a, hr⟩, b, hc⟩, hd⟩, hs⟩

open Classical in
/-- The sampled pixels at a level that is not negative. -/
theorem pick_eq (l : EReal) (hl : 0 ≤ l) (r c : Fin 512) :
    k0_pay27 (valid x) x.conf l (ix2 r c) = if g.Sampled l r c then (1 : EReal) else 0 := by
  pointwise [k0_pay27, k0_pay23]
  unfold Scalar.select
  have hv := valid_iff hx hg r c
  have neg : ¬ l ≤ Ideal.ofBits .f32 0xBF800000#32 := by
    rw [w_outK]
    exact fun h => absurd (hl.trans h) (by rw [not_le]; exact_mod_cast (by norm_num : (-1 : ℝ) < 0))
  unfold Img.Sampled
  by_cases h : valid x (ix2 r c) = 1
  · rw [if_pos h, hx.conf]
    have := hv.mp h
    simp [this]
  · rw [if_neg h, if_neg neg, if_neg fun k => h (hv.mpr k.1)]

/-- The clipped cosine where the mask holds. -/
theorem cos_eq (r c : Fin 512) (h : g.Ok r c) : k0_pay35 (nn x) (pdn x) (pp x) k0_pay34 (ix2 r c) = g.cosine r c := by
  obtain ⟨hr, hc⟩ := inner_of_long h.1
  have e1 : pdn x (ix2 r c) = g.Q 0 r c * (g.N0 r c : EReal) + g.Q 1 r c * (g.N1 r c : EReal) + g.Q 2 r c * (g.N2 r c : EReal) := by
    pointwise [pdn, k0_pay32, k0_pay28, k0_pay29, k0_pay30, ch0, ch1, ch2]
    rw [n0_eq hx hg r c hr hc, n1_eq hx hg r c hr hc, n2_eq hx hg r c hr hc, hx.pred, hx.pred, hx.pred]
  have e2 : pp x (ix2 r c) = max (g.Q 0 r c * g.Q 0 r c + g.Q 1 r c * g.Q 1 r c + g.Q 2 r c * g.Q 2 r c) ((tinyP ^ 2 : ℝ) : EReal) := by
    pointwise [pp, k0_pay33, k0_pay28, k0_pay29, k0_pay30, ch0, ch1, ch2]
    rw [hx.pred, hx.pred, hx.pred, named_pred]
  have e3 : (k0_pay34 : FVec Ideal S512x512 .f32) (ix2 r c) = ((tinyN ^ 2 : ℝ) : EReal) := by
    pointwise [k0_pay34]
    exact named_normal
  pointwise [k0_pay35]
  rw [e1, e2, e3, nn_eq hx hg r c hr hc, w_clipLo, w_clipHi]
  unfold Img.cosine
  rw [← cosine_eq _ _ _ _ _ _ h.1]
  rfl

open Classical in
/-- The loss a grid point adds. -/
theorem addLoss_eq (l : EReal) (hl : 0 ≤ l) (hlev : level (valid x) x.conf = l) (a : EReal) :
    addLoss x a = a + ∑ r, ∑ c, if g.Sampled l r c then g.loss r c else 0 := by
  subst hlev
  pointwise [addLoss, k0_pay1]
  congr 1
  refine Finset.sum_congr rfl fun r _ => Finset.sum_congr rfl fun c _ => ?_
  have hp : picked x (ix2 r c) = _ := pick_eq hx hg _ hl r c
  rw [hp]
  by_cases h : g.Sampled (level (valid x) x.conf) r c
  · have hc := cos_eq hx hg r c h.1
    rw [if_pos h, if_pos h, mul_one, ← g.loss_kernel r c]
    have e3 : k0_pay31 (ch3 x) (ix2 r c) = g.Q 3 r c := by
      pointwise [k0_pay31, ch3]
      rw [hx.pred]
    pointwise [k0_pay36, k0_pay38, k0_pay39, k0_pay37]
    rw [hc, e3]
    rfl
  · rw [if_neg h, if_neg h, mul_zero]

open Classical in
/-- The number of pixels a grid point adds. -/
theorem addCount_eq (l : EReal) (hl : 0 ≤ l) (hlev : level (valid x) x.conf = l) (a : EReal) :
    addCount x a = a + ∑ r, ∑ c, if g.Sampled l r c then (1 : EReal) else 0 := by
  subst hlev
  pointwise [addCount, k0_pay2]
  congr 1
  exact Finset.sum_congr rfl fun r _ => Finset.sum_congr rfl fun c _ => pick_eq hx hg _ hl r c
end Cert.KernelIdeal.Step
end
-- ==== Proof.Threshold.lean ====
/-
  The sampling threshold: fourteen halvings of the unit interval, by counting, end at the order statistic rounded down to a
  multiple of 1 / 16384.
-/
module
public import proofs.«01_k».proof.Proof.KernelRead
@[expose] public section
set_option maxRecDepth 16384
noncomputable section
namespace Cert.Px
open Idealize.ShloMosaic Cert.Words

/-- The order statistic `s` rounded down to a multiple of 1 / 16384, kept in the unit interval. -/
def roundDown (s : EReal) : EReal :=
  Ideal.div (min ((16383 : ℝ) : EReal) (max 0 (Ideal.liftRound Int.floor (s * ((16384 : ℝ) : EReal))))) ((16384 : ℝ) : EReal)

/-- `a / 2 ^ k` is the last multiple of `1 / 2 ^ k` of the unit interval that is not above `s`, or zero. -/
def Bracket (s : EReal) (k a : Nat) : Prop :=
  a < 2 ^ k ∧ (a = 0 ∨ (((a : ℝ) / 2 ^ k : ℝ) : EReal) ≤ s) ∧ (a + 1 = 2 ^ k ∨ ¬ ((((a + 1 : ℕ) : ℝ) / 2 ^ k : ℝ) : EReal) ≤ s)

theorem bracket_zero (s : EReal) : Bracket s 0 0 := ⟨by norm_num, .inl rfl, .inl (by norm_num)⟩

theorem bracket_step {s : EReal} {k a : Nat} (h : Bracket s k a) :
    Bracket s (k + 1) (if (((2 * a + 1 : ℕ) : ℝ) / 2 ^ (k + 1) : ℝ) ≤ s then 2 * a + 1 else 2 * a) := by
  obtain ⟨h0, h1, h2⟩ := h
  have hp : 2 ^ (k + 1) = 2 * 2 ^ k := by ring
  have e (z : ℕ) : (((2 * z : ℕ) : ℝ) / 2 ^ (k + 1)) = (z : ℝ) / 2 ^ k := by push_cast; rw [pow_succ]; field_simp
  split
  · next h =>
    refine ⟨by omega, .inr h, ?_⟩
    rcases h2 with h2 | h2
    · exact .inl (by omega)
    · right
      rw [show 2 * a + 1 + 1 = 2 * (a + 1) by ring, e]; exact h2
  · next h =>
    refine ⟨by omega, ?_, .inr h⟩
    rcases h1 with h1 | h1
    · exact .inl (by omega)
    · right; rw [e]; exact h1

theorem roundDown_eq {s : EReal} {a : Nat} (h : Bracket s 14 a) : roundDown s = (((a : ℝ) / 16384 : ℝ) : EReal) := by
  obtain ⟨h0, h1, h2⟩ := h
  have hp : (2 : ℕ) ^ 14 = 16384 := by norm_num
  have hq : (2 : ℝ) ^ 14 = 16384 := by norm_num
  rw [hp] at h0 h2; rw [hq] at h1 h2
  have key : min ((16383 : ℝ) : EReal) (max 0 (Ideal.liftRound Int.floor (s * ((16384 : ℝ) : EReal)))) = ((a : ℝ) : EReal) := by
    induction s using EReal.rec with
    | bot =>
      have : a = 0 := by rcases h1 with h1 | h1; exacts [h1, absurd h1 (by simp)]
      subst this
      rw [EReal.bot_mul_coe_of_pos (by norm_num), Ideal.liftRound_bot, max_eq_left bot_le, min_eq_right (by exact_mod_cast (by norm_num : (0 : ℝ) ≤ 16383))]
      simp
    | top =>
      have : a = 16383 := by rcases h2 with h2 | h2; exacts [by omega, absurd le_top h2]
      subst this
      rw [EReal.top_mul_coe_of_pos (by norm_num), Ideal.liftRound_top, max_eq_right le_top, min_eq_left le_top]
      norm_num
    | coe z =>
      rw [← EReal.coe_mul, Ideal.liftRound_coe, show (0 : EReal) = ((0 : ℝ) : EReal) from rfl, ← coe_max, ← coe_min]
      congr 1
      have i1 : a = 0 ∨ (a : ℤ) ≤ ⌊z * 16384⌋ := by
        rcases h1 with h1 | h1
        · exact .inl h1
        · right
          have h1 : (a : ℝ) / 16384 ≤ z := by exact_mod_cast h1
          rw [Int.le_floor]; push_cast; linarith
      have i2 : a + 1 = 16384 ∨ ⌊z * 16384⌋ < (a : ℤ) + 1 := by
        rcases h2 with h2 | h2
        · exact .inl h2
        · right
          have h2 : ¬ (((a + 1 : ℕ) : ℝ) / 16384 ≤ z) := by exact_mod_cast h2
          rw [Int.floor_lt]; push_cast at h2 ⊢; linarith
      have : min 16383 (max 0 ⌊z * 16384⌋) = (a : ℤ) := by omega
      exact_mod_cast congrArg (fun i : ℤ => (i : ℝ)) this
  unfold roundDown
  rw [key, Ideal.div_coe (by norm_num), ← EReal.coe_mul]
  congr 1; ring

theorem sum_count {p : Fin 512 → Fin 512 → Prop} [∀ r c, Decidable (p r c)] :
    (∑ r, ∑ c, if p r c then (1 : EReal) else 0)
      = (((Finset.univ.filter fun q : Fin 512 × Fin 512 => p q.1 q.2).card : ℝ) : EReal) := by
  rw [EReal.coe_coe_eq_natCast, Finset.natCast_card_filter, ← Finset.univ_product_univ, Finset.sum_product]

open Classical in
/-- The order statistic that the sampling asks for: 183500 pixels of the image are sampled at exactly the levels not above it. -/
def Img.Statistic (g : Img) (s : EReal) : Prop :=
  ∀ t : ℝ, 0 < t → (183500 ≤ (Finset.univ.filter fun q : Fin 512 × Fin 512 => g.Sampled t q.1 q.2).card ↔ (t : EReal) ≤ s)
end Cert.Px

namespace Cert.KernelIdeal.Step
open Cert.KernelIdeal Cert.KernelIdeal.Gen Idealize.ShloMosaic Cert.Px Cert.Words Cert.Bits
variable {x : Blocks} {g : Img} (hx : Reads x g) (hg : g.Fine)
include hx hg

open Classical in
theorem counted {s : EReal} (hs : g.Statistic s) (t : ℝ) (ht : 0 < t) :
    Ideal.ofBits .f32 0x48333300#32 ≤ (∑ r, ∑ c, if (t : EReal) ≤ Scalar.select (valid x (ix2 r c)) (x.conf (ix3 0 r c)) (Ideal.ofBits .f32 0xBF800000#32)
      then (1 : EReal) else 0) ↔ (t : EReal) ≤ s := by
  have e : ∀ r c, ((t : EReal) ≤ Scalar.select (valid x (ix2 r c)) (x.conf (ix3 0 r c)) (Ideal.ofBits .f32 0xBF800000#32)) ↔ g.Sampled t r c := by
    intro r c
    have hv := valid_iff hx hg r c
    unfold Scalar.select Img.Sampled
    by_cases h : valid x (ix2 r c) = 1
    · rw [if_pos h, hx.conf]
      exact ⟨fun k => ⟨hv.mp h, k⟩, fun k => k.2⟩
    · rw [if_neg h, w_outK]
      refine ⟨fun k => absurd k ?_, fun k => absurd (hv.mpr k.1) h⟩
      rw [not_le]; exact_mod_cast (by linarith : (-1 : ℝ) < t)
  simp only [e]
  rw [sum_count, ← hs t ht, w_sample]
  rw [EReal.coe_le_coe_iff]
  exact_mod_cast Iff.rfl

theorem halve_eq {s : EReal} (hs : g.Statistic s) (k a : Nat) :
    halve (valid x) x.conf (((((a : ℝ) / 2 ^ k : ℝ)) : EReal), (((((a + 1 : ℕ) : ℝ) / 2 ^ k : ℝ)) : EReal))
      = if (((2 * a + 1 : ℕ) : ℝ) / 2 ^ (k + 1) : ℝ) ≤ s
        then (((((2 * a + 1 : ℕ) : ℝ) / 2 ^ (k + 1) : ℝ) : EReal), (((((2 * a + 1) + 1 : ℕ) : ℝ) / 2 ^ (k + 1) : ℝ) : EReal))
        else (((((2 * a : ℕ) : ℝ) / 2 ^ (k + 1) : ℝ) : EReal), (((((2 * a) + 1 : ℕ) : ℝ) / 2 ^ (k + 1) : ℝ) : EReal)) := by
  have mid : ((((a : ℝ) / 2 ^ k : ℝ)) : EReal) + (((((a + 1 : ℕ) : ℝ) / 2 ^ k : ℝ)) : EReal) = (((2 * a + 1 : ℕ) : ℝ) / 2 ^ k : ℝ) := by
    rw [← EReal.coe_add]; congr 1; push_cast; ring
  have mid' : ((((2 * a + 1 : ℕ) : ℝ) / 2 ^ k : ℝ) : EReal) * Ideal.ofBits .f32 0x3F000000#32 = (((2 * a + 1 : ℕ) : ℝ) / 2 ^ (k + 1) : ℝ) := by
    rw [w_half, ← EReal.coe_mul]; congr 1; rw [pow_succ]; field_simp
  have pos : (0 : ℝ) < ((2 * a + 1 : ℕ) : ℝ) / 2 ^ (k + 1) := by positivity
  have e (z : ℕ) : (((2 * z : ℕ) : ℝ) / 2 ^ (k + 1)) = (z : ℝ) / 2 ^ k := by push_cast; rw [pow_succ]; field_simp
  have c := counted hx hg hs _ pos
  unfold halve
  refine Prod.ext ?_ ?_
  · pointwise [k0_pay25, k0_pay23, k0_pay24]
    rw [mid, mid']
    by_cases h : ((((2 * a + 1 : ℕ) : ℝ) / 2 ^ (k + 1) : ℝ) : EReal) ≤ s
    · rw [if_pos (c.mpr h), if_pos h]
    · rw [if_neg (mt c.mp h), if_neg h, e]
  · pointwise [k0_pay26, k0_pay23, k0_pay24]
    rw [mid, mid']
    by_cases h : ((((2 * a + 1 : ℕ) : ℝ) / 2 ^ (k + 1) : ℝ) : EReal) ≤ s
    · rw [if_pos (c.mpr h), if_pos h, show 2 * a + 1 + 1 = 2 * (a + 1) by ring, e]
    · rw [if_neg (mt c.mp h), if_neg h]

theorem iterate_eq {s : EReal} (hs : g.Statistic s) (k : Nat) : ∃ a, Bracket s k a ∧
    (halve (valid x) x.conf)^[k] (((0 : ℝ) : EReal), ((1 : ℝ) : EReal)) = (((((a : ℝ) / 2 ^ k : ℝ)) : EReal), (((((a + 1 : ℕ) : ℝ) / 2 ^ k : ℝ)) : EReal)) := by
  induction k with
  | zero => exact ⟨0, bracket_zero s, by simp⟩
  | succ k ih =>
    obtain ⟨a, hb, e⟩ := ih
    refine ⟨_, bracket_step hb, ?_⟩
    rw [Function.iterate_succ_apply', e, halve_eq hx hg hs]
    split <;> rfl

/-- The kernel's threshold is the order statistic rounded down. -/
theorem level_eq {s : EReal} (hs : g.Statistic s) : level (valid x) x.conf = roundDown s := by
  obtain ⟨a, hb, e⟩ := iterate_eq hx hg hs 14
  rw [roundDown_eq hb]
  unfold level
  rw [Scf.fold_eq, List.foldl_const, List.length_finRange,
    show k0_t1_loop.trips = 14 from by decide,
    show (FloatOps.ofBits (F := Ideal) .f32 0x00000000#32 : EReal) = ((0 : ℝ) : EReal) from by show Ideal.ofBits .f32 _ = _; simp [Ideal.ofBits, Ideal.ieee],
    show (FloatOps.ofBits (F := Ideal) .f32 0x3F800000#32 : EReal) = ((1 : ℝ) : EReal) from by show Ideal.ofBits .f32 _ = _; simp [Ideal.ofBits, Ideal.ieee, -EReal.coe_mul]; norm_num, e]
  show ((_ : ℝ) : EReal) = _
  norm_num

theorem roundDown_nonneg {s : EReal} (hs : g.Statistic s) : 0 ≤ roundDown s := by
  obtain ⟨a, hb, -⟩ := iterate_eq hx hg hs 14
  rw [roundDown_eq hb]
  exact_mod_cast (by positivity : (0 : ℝ) ≤ (a : ℝ) / 16384)
end Cert.KernelIdeal.Step
end
-- ==== Proof.Order.lean ====
/-
  The reference's threshold statistic: the entry at position 78644 of a sorted row is at least a level exactly when
  183500 entries of the row are.
-/
module
public import proofs.«01_k».proof.Proof.RefNormal
public import proofs.«01_k».proof.Proof.Threshold
public import Idealize.ShloMosaic.Lib.SortFacts
@[expose] public section
set_option maxRecDepth 16384
noncomputable section
namespace Cert.RefRead
open Cert.ReferenceIdeal Cert.ReferenceIdeal.Gen Cert.ReferenceIdeal.Value Idealize.ShloMosaic Idealize.ShloMosaic.TcCoe Idealize.SL.Sem Idealize.ShloMosaic.StableHlo Cert.Px Cert.Words Cert.Bits

/-- A row in ascending order. -/
def ordered {n : Nat} (f : Fin n → EReal) (k : Fin n) : EReal := f (sortedFrom (fun i j => decide (f i < f j)) k)

theorem ordered_mono {n : Nat} (f : Fin n → EReal) {i j : Fin n} (h : i ≤ j) : ordered f i ≤ ordered f j := by
  rcases h.eq_or_lt with rfl | h
  · exact le_rfl
  have := sortedFrom_noInversion (fun i j => decide (f i < f j)) (fun i j => decide (f i < f j))
    (fun a b h => by simp only [decide_eq_true_eq, decide_eq_false_iff_not] at *; exact h.le.not_gt) (fun a b h => h)
    (fun a b c h h' => by simp only [decide_eq_false_iff_not, not_lt] at *; exact h'.trans h) i j h
  simpa [ordered] using this

/-- How many entries reach a level is the same before and after sorting. -/
theorem card_ordered {n : Nat} (f : Fin n → EReal) (t : EReal) :
    (Finset.univ.filter fun k => t ≤ ordered f k).card = (Finset.univ.filter fun k => t ≤ f k).card :=
  Finset.card_bij (fun k _ => sortedFrom (fun i j => decide (f i < f j)) k)
    (fun k hk => Finset.mem_filter.mpr ⟨Finset.mem_univ _, (Finset.mem_filter.mp hk).2⟩) (fun _ _ _ _ e => sortedFrom_injective _ e)
    (fun k hk => by
      obtain ⟨j, rfl⟩ := sortedFrom_surjective (fun i j => decide (f i < f j)) k
      exact ⟨j, Finset.mem_filter.mpr ⟨Finset.mem_univ _, (Finset.mem_filter.mp hk).2⟩, rfl⟩)

theorem reach_iff {n : Nat} (f : Fin n → EReal) (p : Fin n) (t : EReal) :
    n - p.val ≤ (Finset.univ.filter fun k => t ≤ f k).card ↔ t ≤ ordered f p := by
  rw [← card_ordered]
  constructor
  · intro h
    by_contra hn
    have hs : (Finset.univ.filter fun k => t ≤ ordered f k) ⊆ Finset.Ioi p := fun k hk => by
      rw [Finset.mem_Ioi]
      by_contra hk'
      exact hn ((Finset.mem_filter.mp hk).2.trans (ordered_mono f (not_lt.mp hk')))
    have := h.trans (Finset.card_le_card hs)
    rw [Fin.card_Ioi] at this
    have := p.isLt
    omega
  · intro h
    rw [← Fin.card_Ici p]
    exact Finset.card_le_card fun k hk => Finset.mem_filter.mpr ⟨Finset.mem_univ _, h.trans (ordered_mono f (Finset.mem_Ici.mp hk))⟩

/-- The sort's comparator is the comparison of numbers. -/
theorem cmp_eq (x y : Ideal .f32) : comparator_f32_d1 (F := Ideal) x y = BitVec.ofBool (decide ((x : EReal) < (y : EReal))) := by
  unfold comparator_f32_d1
  have sel : ∀ z : Ideal .f32, Scalar.select (FloatOps.cmpf .oeq z (FloatOps.ofBits .f32 0x00000000#32)) (FloatOps.ofBits .f32 0x00000000#32) z = z := fun z => by
    pointwise []
    split
    · next h => exact h.symm
    · rfl
  have nan : ∀ y z : Ideal .f32, Scalar.select (FloatOps.cmpf .une z z) y z = z := fun y z => by
    have : FloatOps.cmpf .une z z = 0#1 := by pointwise []; simp
    rw [this]; rfl
  simp only [sel, nan]
  rfl

theorem sort_at {n : Nat} (x : (⟨2, ![4, n]⟩ : Shape).Idx → Ideal .f32) (b : Fin 4) (k : Fin n) :
    Host.sort ⟨2, ![4, n]⟩ 1 comparator_f32_d1 x (ix2 b k) = ordered (fun k => x (ix2 b k)) k := by
  have along : ∀ k', (ix2 b k : (⟨2, ![4, n]⟩ : Shape).Idx).along ⟨1, Nat.one_lt_two⟩ k' = ix2 b k' := fun k' => by
    funext i; fin_cases i <;> rfl
  have bit : ∀ p : Prop, [Decidable p] → (BitVec.ofBool (decide p) == 1#1) = decide p := fun p _ => by
    by_cases h : p <;> simp [h]
  unfold Host.sort
  rw [dif_pos (by decide : 1 < 2)]
  simp only [cmp_eq, bit]
  exact congrArg (fun f : Fin n → EReal => ordered f k) (funext fun k' => congrArg x (along k'))

variable {V0 : Valuation τ sig (Elt Ideal)} {b : Fin 4}
/-- A pixel of a row of an image. -/
def px (k : Fin 262144) : Fin 512 × Fin 512 := (⟨k.val / 512, by omega⟩, ⟨k.val % 512, by omega⟩)

theorem row_at (x : S4x512x512.Idx → Ideal .f32) (b : Fin 4) (k : Fin 262144) :
    shapeCast S4x262144 x shapeCasts_S4x512x512_S4x262144 (ix2 b k) = x (ix3 b (px k).1 (px k).2) := by
  pointwise [px]

variable (V0 b) in
/-- The reference's threshold statistic of image `b`. -/
def stat : EReal := ordered (fun k : Fin 262144 => (res_main_v127 V0 : Vec Ideal S4x512x512 .f32) (ix3 b (px k).1 (px k).2)) ⟨78644, by norm_num⟩

theorem stat_eq : Host.sort S4x262144 1 comparator_f32_d1 (shapeCast S4x262144 (res_main_v127 V0) shapeCasts_S4x512x512_S4x262144) (ix2 b ⟨78644, by norm_num⟩) = stat V0 b :=
  (sort_at _ b _).trans (congrArg (fun f : Fin 262144 → EReal => ordered f ⟨78644, by norm_num⟩) (funext fun k => row_at _ b k))

open Classical in
theorem conf_eq (hg : (img V0 b).Fine) (r c : Fin 512) : (res_main_v127 V0 : Vec Ideal S4x512x512 .f32) (ix3 b r c)
    = if (img V0 b).Ok r c then (img V0 b).C r c else ((-10000 : ℝ) : EReal) := by
  have e : (res_main_v127 V0 : Vec Ideal S4x512x512 .f32) (ix3 b r c) = Scalar.select ((res_main_v125 V0 : IVec S4x512x512 1) (ix3 b r c))
      ((img V0 b).C r c) (Ideal.ofBits .f32 0xC61C4000#32) := by
    unfold img
    pointwise [res_main_v127]
    rfl
  rw [e, w_outR]
  exact if_congr (mask_iff hg r c) rfl rfl

open Classical in
/-- A level above zero reaches the row at the pixels it samples. -/
theorem reach_pixel (hg : (img V0 b).Fine) (r c : Fin 512) {t : ℝ} (ht : 0 < t) :
    (t : EReal) ≤ (res_main_v127 V0 : Vec Ideal S4x512x512 .f32) (ix3 b r c) ↔ (img V0 b).Sampled t r c := by
  rw [conf_eq hg]
  unfold Img.Sampled
  by_cases h : (img V0 b).Ok r c
  · rw [if_pos h]; exact ⟨fun h' => ⟨h, h'⟩, fun h' => h'.2⟩
  · rw [if_neg h, EReal.coe_le_coe_iff]; exact ⟨fun h' => by linarith, fun h' => absurd h'.1 h⟩

theorem statistic (hg : (img V0 b).Fine) : (img V0 b).Statistic (stat V0 b) := by
  classical
  intro t ht
  unfold stat
  rw [← reach_iff]
  have e : (Finset.univ.filter fun q : Fin 512 × Fin 512 => (img V0 b).Sampled t q.1 q.2).card
      = (Finset.univ.filter fun k : Fin 262144 => (t : EReal) ≤ (res_main_v127 V0 : Vec Ideal S4x512x512 .f32) (ix3 b (px k).1 (px k).2)).card := ?_
  · rw [e]; norm_num
  refine Finset.card_nbij' (fun q => ⟨q.1.val * 512 + q.2.val, by omega⟩) px ?_ ?_ ?_ ?_
  · intro q hq
    have e : px ⟨q.1.val * 512 + q.2.val, by omega⟩ = q := by
      unfold px; ext <;> simp <;> omega
    have hq := (Finset.mem_filter.mp hq).2
    refine Finset.mem_filter.mpr ⟨Finset.mem_univ _, ?_⟩
    rw [e]; exact (reach_pixel hg _ _ ht).mpr hq
  · intro k hk
    exact Finset.mem_filter.mpr ⟨Finset.mem_univ _, (reach_pixel hg _ _ ht).mp (Finset.mem_filter.mp hk).2⟩
  · intro q _
    unfold px; ext <;> simp <;> omega
  · intro k _
    unfold px; ext; simp; omega
end Cert.RefRead
end
-- ==== Proof.RefLoss.lean ====
/-
  The reference's sampled pixels, and its masked loss and mask summed over every image.
-/
module
public import proofs.«01_k».proof.Proof.Order
public import Idealize.ShloMosaic.Lib.IndicatorCount
@[expose] public section
set_option maxRecDepth 16384
noncomputable section
namespace Cert.RefRead
open Cert.ReferenceIdeal Cert.ReferenceIdeal.Gen Cert.ReferenceIdeal.Value Idealize.ShloMosaic Idealize.ShloMosaic.TcCoe Idealize.SL.Sem Idealize.ShloMosaic.StableHlo Cert.Px Cert.Words Cert.Bits
variable {V0 : Valuation τ sig (Elt Ideal)} {b : Fin 4}

theorem slice_at (y : S4x262144.Idx → Ideal .f32) (b : Fin 4) :
    extractStridedSlice S4x1 ![0, 78644] y slices_S4x262144_S4x1_0_78644 (ix2 b 0) = y (ix2 b ⟨78644, by norm_num⟩) := by
  unfold extractStridedSlice
  refine congrArg y (funext fun i => ?_)
  fin_cases i
  · exact Fin.ext (by simp)
  · exact Fin.ext (by simp)

theorem nth_at (b : Fin 4) : extractStridedSlice S4x1 ![0, 78644] (Host.sort S4x262144 1 comparator_f32_d1 (shapeCast S4x262144 (res_main_v127 V0) shapeCasts_S4x512x512_S4x262144)) slices_S4x262144_S4x1_0_78644 (ix2 b 0)
    = stat V0 b := (slice_at _ b).trans stat_eq

/-- The reference's selection of pixels, as a function of the normals, the mask, the confidences and the statistics. -/
def selection (u v w : FVec Ideal S4x512x512 .f32) (m : IVec S4x512x512 1) (conf : FVec Ideal S4x512x512 .f32) (y : FVec Ideal S4x1 .f32) : IVec S4x512x512 1 :=
  andi (andi (noti (andi (andi (cmpf .oeq u (broadcastInDim S4x512x512 ![] bcast_S_S4x512x512 (constant S_ .f32 0x00000000#32))) (cmpf .oeq v (broadcastInDim S4x512x512 ![] bcast_S_S4x512x512 (constant S_ .f32 0x00000000#32)))) (cmpf .oeq w (broadcastInDim S4x512x512 ![] bcast_S_S4x512x512 (constant S_ .f32 0x00000000#32))))) m)
    (cmpf .oge conf (broadcastInDim S4x512x512 ![0, 1, 2] bcast_S4x1x1_S4x512x512_0_1_2 (broadcastInDim S4x1x1 ![0] bcast_S4_S4x1x1_0 (Host.divf (minimumf (broadcastInDim S4 ![] bcast_S_S4 (id (constant S_ .f32 0x467FFC00#32))) (maximumf (broadcastInDim S4 ![] bcast_S_S4 (id (constant S_ .f32 0x00000000#32))) (Host.floor (mulf (shapeCast _ y shapeCasts_S4x1_S4) (broadcastInDim S4 ![] bcast_S_S4 (constant S_ .f32 0x46800000#32)))))) (broadcastInDim S4 ![] bcast_S_S4 (constant S_ .f32 0x46800000#32))))))

theorem selection_at (u v w : FVec Ideal S4x512x512 .f32) (m : IVec S4x512x512 1) (conf : FVec Ideal S4x512x512 .f32) (y : FVec Ideal S4x1 .f32) (b : Fin 4) (r c : Fin 512) :
    selection u v w m conf y (ix3 b r c) = IntOp.andi (IntOp.andi (~~~ IntOp.andi (IntOp.andi
        (BitVec.ofBool (decide ((u (ix3 b r c) : EReal) = 0))) (BitVec.ofBool (decide ((v (ix3 b r c) : EReal) = 0))))
        (BitVec.ofBool (decide ((w (ix3 b r c) : EReal) = 0)))) (m (ix3 b r c)))
      (BitVec.ofBool (decide (roundDown (y (ix2 b 0)) ≤ (conf (ix3 b r c) : EReal)))) := by
  pointwise [selection]
  rw [show id (constant (F := Ideal) S_ .f32 0x467FFC00#32) ix0 = ((16383 : ℝ) : EReal) from w_lastStep,
    show id (constant (F := Ideal) S_ .f32 0#32) ix0 = (0 : EReal) from Ideal.ofBits_zero .f32, w_steps]
  rfl

theorem selection_eq : (res_main_v151 V0 : IVec S4x512x512 1) = selection (res_main_v113 V0) (res_main_v115 V0) (res_main_v117 V0) (res_main_v125 V0) (res_main_v127 V0)
    (extractStridedSlice S4x1 ![0, 78644] (Host.sort S4x262144 1 comparator_f32_d1 (shapeCast S4x262144 (res_main_v127 V0) shapeCasts_S4x512x512_S4x262144)) slices_S4x262144_S4x1_0_78644) := rfl

theorem sampled_word (r c : Fin 512) : (res_main_v151 V0 : IVec S4x512x512 1) (ix3 b r c) =
    IntOp.andi (IntOp.andi (~~~ IntOp.andi (IntOp.andi
        (BitVec.ofBool (decide ((res_main_v113 V0 : Vec Ideal S4x512x512 .f32) (ix3 b r c) = (0 : EReal))))
        (BitVec.ofBool (decide ((res_main_v115 V0 : Vec Ideal S4x512x512 .f32) (ix3 b r c) = (0 : EReal)))))
        (BitVec.ofBool (decide ((res_main_v117 V0 : Vec Ideal S4x512x512 .f32) (ix3 b r c) = (0 : EReal)))))
      ((res_main_v125 V0 : IVec S4x512x512 1) (ix3 b r c)))
      (BitVec.ofBool (decide (roundDown (stat V0 b) ≤ (res_main_v127 V0 : Vec Ideal S4x512x512 .f32) (ix3 b r c)))) := by
  rw [selection_eq, selection_at, nth_at]
/-- Which pixels the reference samples. -/
theorem sampled_iff (hg : (img V0 b).Fine) (r c : Fin 512) : (res_main_v151 V0 : IVec S4x512x512 1) (ix3 b r c) = 1#1
    ↔ (img V0 b).Sampled (roundDown (stat V0 b)) r c := by
  rw [sampled_word, and_iff, and_iff, Bits.not_iff, and_iff, and_iff, ofBool_iff, ofBool_iff, ofBool_iff, ofBool_iff, mask_iff hg, conf_eq hg]
  unfold Img.Sampled
  constructor
  · rintro ⟨⟨_, h⟩, h'⟩
    rw [if_pos h] at h'
    exact ⟨h, h'⟩
  · rintro ⟨h, h'⟩
    rw [if_pos h]
    exact ⟨⟨unit_ne hg r c h.1, h⟩, h'⟩

theorem conc_eq (r c : Fin 512) : (res_main_v162 V0 : Vec Ideal S4x512x512 .f32) (ix3 b r c) = (img V0 b).Q 3 r c := by
  unfold img
  pointwise [res_main_v162, res_main_v154]

theorem poly_eq (e : EReal) (r c : Fin 512) (h : (res_main_v179 V0 : Vec Ideal S4x512x512 .f32) (ix3 b r c) = e) :
    (if e < 0 then Ideal.ofBits .f32 0x40490FDB#32 - (res_main_v226 V0 : Vec Ideal S4x512x512 .f32) (ix3 b r c) else (res_main_v226 V0 : Vec Ideal S4x512x512 .f32) (ix3 b r c))
      = angleR e := by
  unfold angleR
  pointwise [res_main_v226, res_main_v216, res_main_v210, res_main_v204, res_main_v199, res_main_v185]
  rw [h]
theorem sum3 (x : FVec Ideal S4x512x512 .f32) : (Host.reduceAdd x (constant S_ .f32 0x00000000#32) reducesTo_S4x512x512_S_d0_1_2 h_S_ : FVec Ideal S_ .f32) ix0 = ∑ b, ∑ r, ∑ c, (x (ix3 b r c) : EReal) := by
  pointwise []

/-- The reference's loss of a concentration, a clipped cosine and the polynomial's value at it. -/
def lossOf (q e p : EReal) : EReal :=
  -Ideal.log (q * q + 1) + q * (if e < 0 then Ideal.ofBits .f32 0x40490FDB#32 - p else p) + Ideal.log (1 + Ideal.exp (-q * Ideal.ofBits .f32 0x40490FDB#32))

variable (V0) in
def lossAt (b : Fin 4) (r c : Fin 512) : EReal :=
  lossOf ((res_main_v162 V0 : Vec Ideal S4x512x512 .f32) (ix3 b r c)) ((res_main_v179 V0 : Vec Ideal S4x512x512 .f32) (ix3 b r c)) ((res_main_v226 V0 : Vec Ideal S4x512x512 .f32) (ix3 b r c))
variable (V0) in
def maskAt (b : Fin 4) (r c : Fin 512) : EReal := (res_main_v242 V0 : Vec Ideal S4x512x512 .f32) (ix3 b r c)

variable (V0) in
theorem parts : ∃ x : FVec Ideal S4x512x512 .f32, (∀ b r c, x (ix3 b r c) = lossAt V0 b r c * maskAt V0 b r c) ∧
   res_main_v251 V0 = select (cmpi .slt (Host.reduce IntOp.addi (extui 32 (res_main_v151 V0) natLt_1_32) (constantI S_ 32 0#32) reducesTo_S4x512x512_S_d0_1_2 h_S_) (constantI S_ 32 10#32)) (res_main_v249 V0)
     (Host.divf (Host.reduceAdd x (constant S_ .f32 0x00000000#32) reducesTo_S4x512x512_S_d0_1_2 h_S_)
       (maximumf (Host.reduceAdd (res_main_v242 V0) (constant S_ .f32 0x00000000#32) reducesTo_S4x512x512_S_d0_1_2 h_S_) (constant S_ .f32 0x3F800000#32))) :=
  ⟨_, fun b r c => by unfold lossAt lossOf maskAt; pointwise [], rfl⟩

theorem zero_at : (res_main_v249 V0 : Vec Ideal S_ .f32) ix0 = (0 : EReal) := by
  show Ideal.ofBits .f32 0x00000000#32 * _ = (0 : EReal)
  rw [Ideal.ofBits_zero, zero_mul]
theorem all_eq {ι : Type} [Fintype ι] {p : ι → Prop} [DecidablePred p] (h : ∀ i, p i) : Finset.univ.filter p = Finset.univ :=
  Finset.filter_true_of_mem fun i _ => h i

theorem count_at (x : IVec S4x512x512 1) : Host.reduce IntOp.addi (extui 32 x natLt_1_32) (constantI S_ 32 0#32) reducesTo_S4x512x512_S_d0_1_2 h_S_ ix0
      = BitVec.ofNat 32 (Finset.univ.filter fun i : S4x512x512.Idx => x i = 1#1).card := by
  rw [Host.reduce_eq_fold]
  rw [all_eq fun i => funext fun k => k.elim0]
  exact Idealize.ShloMosaic.IndicatorCount.fold_addi_setWidth_eq_card x _

open Classical in
theorem mask_eq (hg : (img V0 b).Fine) (r c : Fin 512) : maskAt V0 b r c = if (img V0 b).Sampled (roundDown (stat V0 b)) r c then 1 else 0 := by
  have e : maskAt V0 b r c = (FloatOps.uitofp .f32 ((res_main_v151 V0 : IVec S4x512x512 1) (ix3 b r c)) : Ideal .f32) := by
    unfold maskAt
    pointwise [res_main_v242]
  rw [e, uitofp_bit]
  exact if_congr (sampled_iff hg r c) rfl rfl

theorem loss_eq (hg : (img V0 b).Fine) (r c : Fin 512) (h : (img V0 b).Ok r c) : lossAt V0 b r c = (img V0 b).loss r c := by
  unfold lossAt lossOf Img.loss
  rw [cos_eq hg r c h, poly_eq _ r c (cos_eq hg r c h), conc_eq, w_pi]

open Classical in
theorem masked_eq (hg : (img V0 b).Fine) (r c : Fin 512) : lossAt V0 b r c * maskAt V0 b r c
    = if (img V0 b).Sampled (roundDown (stat V0 b)) r c then (img V0 b).loss r c else 0 := by
  rw [mask_eq hg]
  by_cases h : (img V0 b).Sampled (roundDown (stat V0 b)) r c
  · rw [if_pos h, if_pos h, mul_one, loss_eq hg r c h.1]
  · rw [if_neg h, if_neg h, mul_zero]

variable (V0) in
/-- How many pixels the reference samples. -/
def sampledCount : Nat := (Finset.univ.filter fun i : S4x512x512.Idx => (res_main_v151 V0 : IVec S4x512x512 1) i = 1#1).card

theorem sampledCount_le : sampledCount V0 ≤ 2 ^ 20 := by
  unfold sampledCount
  rw [Finset.card_filter, sum_idx3]
  calc _ ≤ ∑ _ : Fin 4, ∑ _ : Fin 512, ∑ _ : Fin 512, 1 :=
        Finset.sum_le_sum fun _ _ => Finset.sum_le_sum fun _ _ => Finset.sum_le_sum fun _ _ => by split <;> norm_num
    _ ≤ _ := by simp

open Classical in
theorem sampledCount_eq (hg : ∀ b, (img V0 b).Fine) : ((sampledCount V0 : ℝ) : EReal)
    = ∑ b, ∑ r, ∑ c, if (img V0 b).Sampled (roundDown (stat V0 b)) r c then (1 : EReal) else 0 := by
  unfold sampledCount
  rw [EReal.coe_natCast, Finset.natCast_card_filter, sum_idx3]
  exact Finset.sum_congr rfl fun b _ => Finset.sum_congr rfl fun r _ => Finset.sum_congr rfl fun c _ => if_congr (sampled_iff (hg b) r c) rfl rfl

/-- The mean, or zero where few pixels are sampled. -/
theorem guard_at {n : IVec S_ 32} {z A M : FVec Ideal S_ .f32} {n' : BitVec 32} {a m : EReal} (hn : n ix0 = n') (hz : z ix0 = (0 : EReal)) (hA : A ix0 = a) (hM : M ix0 = m) :
    select (cmpi .slt n (constantI S_ 32 10#32)) z (Host.divf A (maximumf M (constant S_ .f32 0x3F800000#32))) ix0
      = Scalar.select (IntOp.cmpi .slt n' 10#32) (0 : EReal) (Ideal.div a (max m 1)) := by
  subst hn hA hM
  rw [← hz]
  pointwise []

open Classical in
/-- The reference's loss before its last guard. -/
theorem mean_eq (hg : ∀ b, (img V0 b).Fine) : (res_main_v251 V0 : Vec Ideal S_ .f32) ix0
    = Scalar.select (IntOp.cmpi .slt (BitVec.ofNat 32 (sampledCount V0)) 10#32) (0 : EReal)
      (Ideal.div (∑ b, ∑ r, ∑ c, if (img V0 b).Sampled (roundDown (stat V0 b)) r c then (img V0 b).loss r c else 0)
        (max ((sampledCount V0 : ℝ) : EReal) 1)) := by
  obtain ⟨x, hx, e⟩ := parts V0
  refine (congrFun e ix0).trans (guard_at (count_at _) zero_at ((sum3 x).trans ?_) ((sum3 _).trans ?_))
  · exact Finset.sum_congr rfl fun b _ => Finset.sum_congr rfl fun r _ => Finset.sum_congr rfl fun c _ => (hx b r c).trans (masked_eq (hg b) r c)
  · exact (Finset.sum_congr rfl fun b _ => Finset.sum_congr rfl fun r _ => Finset.sum_congr rfl fun c _ => mask_eq (hg b) r c).trans (sampledCount_eq hg).symm
end Cert.RefRead
end
-- ==== Proof.Cells.lean ====
/-
  The kernel's two accumulator cells and its one result cell: what they hold after the stores, and what a load reads.
-/
module
public import proofs.«01_k».proof.Proof.Blocks
@[expose] public section
set_option maxRecDepth 16384
noncomputable section
namespace Cert.KernelIdeal.Step
open Cert.KernelIdeal Cert.KernelIdeal.Gen Idealize.ShloMosaic Idealize.ShloMosaic.TcCoe Idealize.SL.Sem

theorem zero3 : (![0, 0, 0] : Fin 3 → Nat) = fun _ => 0 := funext fun a => by fin_cases a <;> rfl

/-- The two accumulator cells, written one after the other, hold the two stored numbers. -/
theorem two_cells (h1 : ∀ a, (![1] : Fin 1 → Nat) a + (![1] : Fin 1 → Nat) a ≤ S2.size a)
    (h0 : ∀ a, (![0] : Fin 1 → Nat) a + (![1] : Fin 1 → Nat) a ≤ S2.size a) (p q : EReal)
    (L : List (View.Piece (Elt Ideal) S2 .f32)) :
    View.canon (Val := Elt Ideal) (⟨Rect.unit ![1] ![1] h1, fun _ => q⟩ :: ⟨Rect.unit ![0] ![1] h0, fun _ => p⟩ :: L) =
      fun j => if (j 0).val = 0 then p else q := by
  funext j
  by_cases hj : (j 0).val = 0
  · rw [if_pos hj, View.canon_cons_of_not_mem]
    · have : j = (Rect.unit ![0] ![1] h0).emb (ix1 0) := by
        funext a; fin_cases a; apply Fin.ext; show (j 0).val = 0 + 1 * 0; omega
      rw [this, View.canon_cons_emb]
    · rw [Rect.mem_set_unit]; intro h; have := (h 0).1; simp at this; omega
  · rw [if_neg hj]
    have : j = (Rect.unit ![1] ![1] h1).emb (ix1 0) := by
      have hlt : (j 0).val < 2 := (j 0).isLt
      funext a; fin_cases a; apply Fin.ext; show (j 0).val = 1 + 1 * 0; omega
    rw [this, View.canon_cons_emb]

/-- A load of one accumulator cell. -/
theorem cell0 (s : Vec Ideal S2 .f32) (h0 : ∀ a, (![0] : Fin 1 → Nat) a + (![1] : Fin 1 → Nat) a ≤ S2.size a)
    (k : (Rect.unit (s := S2) ![0] ![1] h0).shape.Idx) : View.ld (Val := Elt Ideal) (S := S2) (e' := .f32) s (Rect.unit (s := S2) ![0] ![1] h0) k = s (ix1 0) := by
  have hlt : (k 0).val < 1 := (k 0).isLt
  refine congrArg s (funext fun a => ?_); fin_cases a; apply Fin.ext; show 0 + 1 * (k 0).val = 0; omega
theorem cell1 (s : Vec Ideal S2 .f32) (h0 : ∀ a, (![1] : Fin 1 → Nat) a + (![1] : Fin 1 → Nat) a ≤ S2.size a)
    (k : (Rect.unit (s := S2) ![1] ![1] h0).shape.Idx) : View.ld (Val := Elt Ideal) (S := S2) (e' := .f32) s (Rect.unit (s := S2) ![1] ![1] h0) k = s (ix1 1) := by
  have hlt : (k 0).val < 1 := (k 0).isLt
  refine congrArg s (funext fun a => ?_); fin_cases a; apply Fin.ext; show 1 + 1 * (k 0).val = 1; omega

/-- The result cell, written once, holds the stored number. -/
theorem one_cell (h0 : ∀ a, (![0] : Fin 1 → Nat) a + (![1] : Fin 1 → Nat) a ≤ S1.size a) (p : EReal) :
    View.canon (Val := Elt Ideal) (s := S1) (e := .f32) [⟨Rect.unit ![0] ![1] h0, fun _ => p⟩] = fun _ => p := by
  funext j
  have : j = (Rect.unit ![0] ![1] h0).emb (ix1 0) := by
    have hlt : (j 0).val < 1 := (j 0).isLt
    funext a; fin_cases a; apply Fin.ext; show (j 0).val = 0 + 1 * 0; omega
  rw [this, View.canon_cons_emb]
end Cert.KernelIdeal.Step
end
-- ==== Proof.KernelStep.lean ====
/-
  The three kinds of grid points, each read as one step of the running sums.
-/
module
public import proofs.«01_k».proof.Proof.Cells
public import Idealize.ShloMosaic.Lib.Pointwise
@[expose] public section
set_option maxRecDepth 16384
noncomputable section
namespace Cert.KernelIdeal.Step
open Cert.KernelIdeal Cert.KernelIdeal.Gen Cert.KernelIdeal.Value Idealize.ShloMosaic Idealize.ShloMosaic.TcCoe Idealize.SL.Sem

/-- The first grid point starts both sums from zero. -/
theorem sums_A (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .i8) (harg3 : arg3.IsWhole) (arg4 : Memref sig .tc .vmem S1x4x512x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1x512 .f32) (harg9 : arg9.IsWhole) (arg10 : Memref sig .tc .vmem S1x512x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x512x1 .f32) (harg13 : arg13.IsWhole) (arg14 : Memref sig .tc .vmem S1x1x512 .f32) (harg14 : arg14.IsWhole) (arg15 : Memref sig .tc .smem S1 .f32) (harg15 : arg15.IsWhole) (arg16 : Memref sig .tc .smem S2 .f32) (harg16 : arg16.IsWhole) (hc0 : cond0_0 i) (hc1 : ¬cond0_1 i) (x0 : Vec Ideal S1x512x512 .f32) (x1 : Vec Ideal S1x512x512 .f32) (x2 : Vec Ideal S1x512x512 .i8) (x3 : Vec Ideal S1x4x512x512 .f32) (x4 : Vec Ideal S1x1x512 .f32) (x5 : Vec Ideal S1x1x512 .f32) (x6 : Vec Ideal S1x512x1 .f32) (x7 : Vec Ideal S1x512x1 .f32) (x8 : Vec Ideal S1x1x512 .f32) (x9 : Vec Ideal S1x512x1 .f32) (x10 : Vec Ideal S1x1x1 .f32) (x11 : Vec Ideal S1x1x1 .f32) (x12 : Vec Ideal S1x512x1 .f32) (x13 : Vec Ideal S1x1x512 .f32)  :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13  = next ⟨x0, x1, x2, x3, x4, x5, x6, x7, x8, x9, x10, x11, x12, x13⟩ (fun _ => (FloatOps.ofBits (F := Ideal) .f32 0x00000000#32 : EReal)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 )]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x512) zero3, View.ld_unit_zero (S := S1x1x512) zero3, View.ld_unit_zero (S := S1x512x1) zero3, View.ld_unit_zero (S := S1x1x1) zero3]

  refine (two_cells _ _ _ _ _).trans ?_
  unfold next addLoss addCount
  rfl

/-- A grid point in between adds to both sums. -/
theorem sums_B (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .i8) (harg3 : arg3.IsWhole) (arg4 : Memref sig .tc .vmem S1x4x512x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1x512 .f32) (harg9 : arg9.IsWhole) (arg10 : Memref sig .tc .vmem S1x512x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x512x1 .f32) (harg13 : arg13.IsWhole) (arg14 : Memref sig .tc .vmem S1x1x512 .f32) (harg14 : arg14.IsWhole) (arg15 : Memref sig .tc .smem S1 .f32) (harg15 : arg15.IsWhole) (arg16 : Memref sig .tc .smem S2 .f32) (harg16 : arg16.IsWhole) (hc0 : ¬cond0_0 i) (hc1 : ¬cond0_1 i) (x0 : Vec Ideal S1x512x512 .f32) (x1 : Vec Ideal S1x512x512 .f32) (x2 : Vec Ideal S1x512x512 .i8) (x3 : Vec Ideal S1x4x512x512 .f32) (x4 : Vec Ideal S1x1x512 .f32) (x5 : Vec Ideal S1x1x512 .f32) (x6 : Vec Ideal S1x512x1 .f32) (x7 : Vec Ideal S1x512x1 .f32) (x8 : Vec Ideal S1x1x512 .f32) (x9 : Vec Ideal S1x512x1 .f32) (x10 : Vec Ideal S1x1x1 .f32) (x11 : Vec Ideal S1x1x1 .f32) (x12 : Vec Ideal S1x512x1 .f32) (x13 : Vec Ideal S1x1x512 .f32) (xs0 : Vec Ideal S2 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = next ⟨x0, x1, x2, x3, x4, x5, x6, x7, x8, x9, x10, x11, x12, x13⟩ xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x512) zero3, View.ld_unit_zero (S := S1x1x512) zero3, View.ld_unit_zero (S := S1x512x1) zero3, View.ld_unit_zero (S := S1x1x1) zero3]
  rw [cell0, cell1]
  refine (two_cells _ _ _ _ _).trans ?_
  unfold next addLoss addCount
  rfl

/-- So does the last one. -/
theorem sums_C (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .i8) (harg3 : arg3.IsWhole) (arg4 : Memref sig .tc .vmem S1x4x512x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1x512 .f32) (harg9 : arg9.IsWhole) (arg10 : Memref sig .tc .vmem S1x512x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x512x1 .f32) (harg13 : arg13.IsWhole) (arg14 : Memref sig .tc .vmem S1x1x512 .f32) (harg14 : arg14.IsWhole) (arg15 : Memref sig .tc .smem S1 .f32) (harg15 : arg15.IsWhole) (arg16 : Memref sig .tc .smem S2 .f32) (harg16 : arg16.IsWhole) (hc0 : ¬cond0_0 i) (hc1 : cond0_1 i) (x0 : Vec Ideal S1x512x512 .f32) (x1 : Vec Ideal S1x512x512 .f32) (x2 : Vec Ideal S1x512x512 .i8) (x3 : Vec Ideal S1x4x512x512 .f32) (x4 : Vec Ideal S1x1x512 .f32) (x5 : Vec Ideal S1x1x512 .f32) (x6 : Vec Ideal S1x512x1 .f32) (x7 : Vec Ideal S1x512x1 .f32) (x8 : Vec Ideal S1x1x512 .f32) (x9 : Vec Ideal S1x512x1 .f32) (x10 : Vec Ideal S1x1x1 .f32) (x11 : Vec Ideal S1x1x1 .f32) (x12 : Vec Ideal S1x512x1 .f32) (x13 : Vec Ideal S1x1x512 .f32) (xs0 : Vec Ideal S2 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = next ⟨x0, x1, x2, x3, x4, x5, x6, x7, x8, x9, x10, x11, x12, x13⟩ xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x512) zero3, View.ld_unit_zero (S := S1x1x512) zero3, View.ld_unit_zero (S := S1x512x1) zero3, View.ld_unit_zero (S := S1x1x1) zero3]
  rw [cell0, cell1]
  refine (two_cells _ _ _ _ _).trans ?_
  unfold next addLoss addCount
  rfl

/-- The last grid point writes the mean of the running sums, or zero. -/
theorem out_C (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .i8) (harg3 : arg3.IsWhole) (arg4 : Memref sig .tc .vmem S1x4x512x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1x512 .f32) (harg9 : arg9.IsWhole) (arg10 : Memref sig .tc .vmem S1x512x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x512x1 .f32) (harg13 : arg13.IsWhole) (arg14 : Memref sig .tc .vmem S1x1x512 .f32) (harg14 : arg14.IsWhole) (arg15 : Memref sig .tc .smem S1 .f32) (harg15 : arg15.IsWhole) (arg16 : Memref sig .tc .smem S2 .f32) (harg16 : arg16.IsWhole) (hc0 : ¬cond0_0 i) (hc1 : cond0_1 i) (x0 : Vec Ideal S1x512x512 .f32) (x1 : Vec Ideal S1x512x512 .f32) (x2 : Vec Ideal S1x512x512 .i8) (x3 : Vec Ideal S1x4x512x512 .f32) (x4 : Vec Ideal S1x1x512 .f32) (x5 : Vec Ideal S1x1x512 .f32) (x6 : Vec Ideal S1x512x1 .f32) (x7 : Vec Ideal S1x512x1 .f32) (x8 : Vec Ideal S1x1x512 .f32) (x9 : Vec Ideal S1x512x1 .f32) (x10 : Vec Ideal S1x1x1 .f32) (x11 : Vec Ideal S1x1x1 .f32) (x12 : Vec Ideal S1x512x1 .f32) (x13 : Vec Ideal S1x1x512 .f32) (xs0 : Vec Ideal S2 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = fun _ => k0_pay3 (F := Ideal) (addLoss ⟨x0, x1, x2, x3, x4, x5, x6, x7, x8, x9, x10, x11, x12, x13⟩ (xs0 (ix1 0))) (addCount ⟨x0, x1, x2, x3, x4, x5, x6, x7, x8, x9, x10, x11, x12, x13⟩ (xs0 (ix1 1))) := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x512) zero3, View.ld_unit_zero (S := S1x1x512) zero3, View.ld_unit_zero (S := S1x512x1) zero3, View.ld_unit_zero (S := S1x1x1) zero3]
  rw [cell0, cell1]
  refine (one_cell _ _).trans ?_
  rfl

end Cert.KernelIdeal.Step
end
-- ==== Proof.KernelRun.lean ====
/-
  The kernel's run: the four grid points, one after another, carry the two running sums, and the last one writes the
  result.
-/
module
public import proofs.«01_k».proof.Proof.KernelStep
@[expose] public section
set_option maxRecDepth 16384
noncomputable section
namespace Cert.KernelIdeal.Step
open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg) (c : Dev nD)

/-- The blocks grid point `t` reads. -/
def blk (t : Fin cfg0.N) : Blocks :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t⟩

/-- The running sums before the first grid point. -/
def start : Vec Ideal S2 .f32 := fun _ => (FloatOps.ofBits (F := Ideal) .f32 0x00000000#32 : EReal)

theorem sums0 (h : 0 < cfg0.N) : (outsAt0 m c 0 h).2 = next (blk m c t0_0) start := by
  have e := congrArg Prod.snd (outsAt0_A m c t0_0 rfl (by decide))
  exact e.trans (sums_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) scM0_0 (Memref.isWhole_whole _) ((hcond0_0 t0_0).mpr rfl) (mt (hcond0_1 t0_0).mp (by decide)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0))
theorem sums1 (h : 1 < cfg0.N) : (outsAt0 m c 1 h).2 = next (blk m c t0_1) (next (blk m c t0_0) start) := by
  have e := congrArg Prod.snd (outsAt0_B m c t0_1 (by decide) (by decide))
  refine e.trans ((sums_B c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) (ms0_9 t0_1) (hs0_9 t0_1) (ms0_10 t0_1) (hs0_10 t0_1) (ms0_11 t0_1) (hs0_11 t0_1) (ms0_12 t0_1) (hs0_12 t0_1) (ms0_13 t0_1) (hs0_13 t0_1) (ms0_14 t0_1) (hs0_14 t0_1) scM0_0 (Memref.isWhole_whole _) (mt (hcond0_0 t0_1).mp (by decide)) (mt (hcond0_1 t0_1).mp (by decide)) (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (iblk m c 12 t0_1) (iblk m c 13 t0_1) (outsAt0 m c (t0_1.val - 1) (Nat.lt_of_le_of_lt (Nat.sub_le _ _) t0_1.isLt)).2).trans ?_)
  exact congrArg (next (blk m c t0_1)) (sums0 m c _)
theorem sums2 (h : 2 < cfg0.N) :
    (outsAt0 m c 2 h).2 = next (blk m c t0_2) (next (blk m c t0_1) (next (blk m c t0_0) start)) := by
  have e := congrArg Prod.snd (outsAt0_B m c t0_2 (by decide) (by decide))
  refine e.trans ((sums_B c (grid0.coords t0_2) (ms0_0 t0_2) (hs0_0 t0_2) (ms0_1 t0_2) (hs0_1 t0_2) (ms0_2 t0_2) (hs0_2 t0_2) (ms0_3 t0_2) (hs0_3 t0_2) (ms0_4 t0_2) (hs0_4 t0_2) (ms0_5 t0_2) (hs0_5 t0_2) (ms0_6 t0_2) (hs0_6 t0_2) (ms0_7 t0_2) (hs0_7 t0_2) (ms0_8 t0_2) (hs0_8 t0_2) (ms0_9 t0_2) (hs0_9 t0_2) (ms0_10 t0_2) (hs0_10 t0_2) (ms0_11 t0_2) (hs0_11 t0_2) (ms0_12 t0_2) (hs0_12 t0_2) (ms0_13 t0_2) (hs0_13 t0_2) (ms0_14 t0_2) (hs0_14 t0_2) scM0_0 (Memref.isWhole_whole _) (mt (hcond0_0 t0_2).mp (by decide)) (mt (hcond0_1 t0_2).mp (by decide)) (iblk m c 0 t0_2) (iblk m c 1 t0_2) (iblk m c 2 t0_2) (iblk m c 3 t0_2) (iblk m c 4 t0_2) (iblk m c 5 t0_2) (iblk m c 6 t0_2) (iblk m c 7 t0_2) (iblk m c 8 t0_2) (iblk m c 9 t0_2) (iblk m c 10 t0_2) (iblk m c 11 t0_2) (iblk m c 12 t0_2) (iblk m c 13 t0_2) (outsAt0 m c (t0_2.val - 1) (Nat.lt_of_le_of_lt (Nat.sub_le _ _) t0_2.isLt)).2).trans ?_)
  exact congrArg (next (blk m c t0_2)) (sums1 m c _)

/-- The total of the masked loss and the number of sampled pixels, over the four images. -/
def total : EReal :=
  addLoss (blk m c t0_3) (addLoss (blk m c t0_2) (addLoss (blk m c t0_1) (addLoss (blk m c t0_0) (0 : EReal))))
def count : EReal :=
  addCount (blk m c t0_3) (addCount (blk m c t0_2) (addCount (blk m c t0_1) (addCount (blk m c t0_0) (0 : EReal))))

/-- The kernel's result. -/
def result : Buf (Elt Ideal) ((c : Thread nD τ).loc main_v85) := fun _ => k0_pay3 (F := Ideal) (total m c) (count m c)

theorem start_zero : (FloatOps.ofBits (F := Ideal) .f32 0x00000000#32 : EReal) = 0 := by
  show Ideal.ofBits .f32 0x00000000#32 = 0
  simp [Ideal.ofBits, Ideal.ieee]

theorem out3 (h : 3 < cfg0.N) : (outsAt0 m c 3 h).1 = fun _ => k0_pay3 (F := Ideal) (total m c) (count m c) := by
  have e := congrArg Prod.fst (outsAt0_C m c t0_3 (by decide) (by decide))
  refine e.trans ((out_C c (grid0.coords t0_3) (ms0_0 t0_3) (hs0_0 t0_3) (ms0_1 t0_3) (hs0_1 t0_3) (ms0_2 t0_3) (hs0_2 t0_3) (ms0_3 t0_3) (hs0_3 t0_3) (ms0_4 t0_3) (hs0_4 t0_3) (ms0_5 t0_3) (hs0_5 t0_3) (ms0_6 t0_3) (hs0_6 t0_3) (ms0_7 t0_3) (hs0_7 t0_3) (ms0_8 t0_3) (hs0_8 t0_3) (ms0_9 t0_3) (hs0_9 t0_3) (ms0_10 t0_3) (hs0_10 t0_3) (ms0_11 t0_3) (hs0_11 t0_3) (ms0_12 t0_3) (hs0_12 t0_3) (ms0_13 t0_3) (hs0_13 t0_3) (ms0_14 t0_3) (hs0_14 t0_3) scM0_0 (Memref.isWhole_whole _) (mt (hcond0_0 t0_3).mp (by decide)) ((hcond0_1 t0_3).mpr rfl) (iblk m c 0 t0_3) (iblk m c 1 t0_3) (iblk m c 2 t0_3) (iblk m c 3 t0_3) (iblk m c 4 t0_3) (iblk m c 5 t0_3) (iblk m c 6 t0_3) (iblk m c 7 t0_3) (iblk m c 8 t0_3) (iblk m c 9 t0_3) (iblk m c 10 t0_3) (iblk m c 11 t0_3) (iblk m c 12 t0_3) (iblk m c 13 t0_3) (outsAt0 m c (t0_3.val - 1) (Nat.lt_of_le_of_lt (Nat.sub_le _ _) t0_3.isLt)).2).trans ?_)
  have s : (outsAt0 m c (t0_3.val - 1) (Nat.lt_of_le_of_lt (Nat.sub_le _ _) t0_3.isLt)).2 = _ := sums2 m c _
  have s0 : (outsAt0 m c (t0_3.val - 1) (Nat.lt_of_le_of_lt (Nat.sub_le _ _) t0_3.isLt)).2 (ix1 0)
      = addLoss (blk m c t0_2) (addLoss (blk m c t0_1) (addLoss (blk m c t0_0) (0 : EReal))) := by
    rw [s, ← start_zero]; rfl
  have s1 : (outsAt0 m c (t0_3.val - 1) (Nat.lt_of_le_of_lt (Nat.sub_le _ _) t0_3.isLt)).2 (ix1 1)
      = addCount (blk m c t0_2) (addCount (blk m c t0_1) (addCount (blk m c t0_0) (0 : EReal))) := by
    rw [s, ← start_zero]; rfl
  rw [s0, s1]
  rfl

/-- The one write-back, at the last grid point, writes the whole result array. -/
theorem flushed_eq (t : Fin cfg0.N) (hf : (cfg0.win 14).flush t = true) :
    (dats m 0 c).flushed 14 t = ((cfg0.win 14).blk t).view.read (Elt Ideal) (result m c) := by
  have hN : cfg0.N = 4 := N_0
  have h3 : t.val = 3 := by have := (flush0_14 t).mp hf; have := t.isLt; omega
  obtain rfl : t = t0_3 := Fin.ext h3
  rw [flushed14, show (outsAt0 m c t0_3.val t0_3.isLt).1 = _ from out3 m c t0_3.isLt]
  rfl

theorem final : (dats m 0 c).arrAt 14 cfg0.N = result m c :=
  (dats m 0 c).arrAt_eq_of_cover 14 (result m c) (flushed_eq m c) fun i =>
    ⟨t0_3, (flush0_14 t0_3).mpr rfl, by
      show i ∈ ((View.whole main_v85).slice (win0_14.rect t0_3)).set
      rw [View.set_slice_whole, Rect.mem_set_unit]
      intro a
      have h0 : (i 0 : Nat) < 1 := (i 0).isLt
      match a with
      | ⟨0, _⟩ =>
        show win0_14.index t0_3 0 * win0_14.size 0 ≤ (i 0 : Nat) ∧ (i 0 : Nat) < win0_14.index t0_3 0 * win0_14.size 0 + win0_14.xsize (grid0.coords t0_3) 0
        rw [show win0_14.index t0_3 0 * win0_14.size 0 = 0 from by decide +kernel, show win0_14.xsize (grid0.coords t0_3) 0 = 1 from by decide +kernel]; omega⟩

/-- The run, read: the result array holds the result, the arguments are unchanged. -/
theorem run : θ_run defs (onTc (τ := τ) (main (F := Ideal))) ⟨m, fun _ => 0, ρ⟩ fun r => ∀ c : Dev nD,
      r.2.mem ((c : Thread nD τ).loc main_v85) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (run_blocks m ρ)
end Cert.KernelIdeal.Step
end
-- ==== Proof.HostArrays.lean ====
/-
  The arrays the host computes before the launch, at an index, over the image they belong to.
-/
module
public import proofs.«01_k».proof.Proof.Gen.KernelIdeal.Value
public import proofs.«01_k».proof.Proof.KernelRead
public import Idealize.ShloMosaic.Lib.StableHlo.ReadAt
@[expose] public section
set_option maxRecDepth 16384
noncomputable section
namespace Cert.KernelIdeal.Step
open Cert.KernelIdeal Cert.KernelIdeal.Gen Cert.KernelIdeal.Value Idealize.ShloMosaic Idealize.ShloMosaic.TcCoe Idealize.SL.Sem Idealize.ShloMosaic.StableHlo Cert.Px Cert.Bits

variable (m : (ℓ : Loc nD τ sig) → Buf (Elt Ideal) ℓ) (c : Dev nD)

/-- Image `b` of the arguments. -/
def img (b : Fin 4) : Img where
  D i j := (m ((c : Thread nD τ).loc main_arg3) : Vec Ideal S4x1x512x512 .f32) (ix4 b 0 i j)
  C i j := (m ((c : Thread nD τ).loc main_arg4) : Vec Ideal S4x1x512x512 .f32) (ix4 b 0 i j)
  S i j := (m ((c : Thread nD τ).loc main_arg7) : Vec Ideal S4x1x512x512 .i32) (ix4 b 0 i j)
  Q k i j := (m ((c : Thread nD τ).loc main_arg5) : Vec Ideal S1x4x4x512x512 .f32) (ix5 0 b k i j)
  fx := (m ((c : Thread nD τ).loc main_arg6) : Vec Ideal S4x3x3 .f32) (ix3 b 0 0)
  fy := (m ((c : Thread nD τ).loc main_arg6) : Vec Ideal S4x3x3 .f32) (ix3 b 1 1)
  cx := (m ((c : Thread nD τ).loc main_arg6) : Vec Ideal S4x3x3 .f32) (ix3 b 0 2)
  cy := (m ((c : Thread nD τ).loc main_arg6) : Vec Ideal S4x3x3 .f32) (ix3 b 1 2)
  p k := (m ((c : Thread nD τ).loc main_arg2) : Vec Ideal S4x4 .i32) (ix2 b k)

variable (b : Fin 4)
theorem small (i : Fin 512) : i.val < 2 ^ 31 := by have := i.isLt; omega
theorem small1 (i : Fin 512) : 1 + i.val < 2 ^ 31 := by have := i.isLt; omega
theorem array0 (i j : Fin 512) : (V m c main_v0 : Vec Ideal S4x512x512 .f32) (ix3 b i j) = (img m c b).D i j := by
  unfold V
  after_reads_at
  rfl
theorem array1 (i j : Fin 512) : (V m c main_v1 : Vec Ideal S4x512x512 .f32) (ix3 b i j) = (img m c b).C i j := by
  unfold V
  after_reads_at
  rfl
theorem array2 (i j : Fin 512) : (V m c main_v3 : Vec Ideal S4x512x512 .i8) (ix3 b i j) = BitVec.setWidth 8 ((img m c b).S i j) := by
  unfold V
  after_reads_at
  rfl
theorem array3 (k : Fin 4) (i j : Fin 512) : (V m c main_v4 : Vec Ideal S4x4x512x512 .f32) (ix4 b k i j) = (img m c b).Q k i j := by
  unfold V
  after_reads_at
  rfl
theorem array4 (j : Fin 512) : (V m c main_v26 : Vec Ideal S4x1x512 .f32) (ix3 b 0 j) = Ideal.div (((j.val : ℝ) : EReal) - (img m c b).cx) (img m c b).fx := by
  unfold V
  after_reads_at
  rw [sitofp_nat _ (small j)]; rfl
theorem array5 (j : Fin 512) (hj : j.val < 511) : (V m c main_v33 : Vec Ideal S4x1x512 .f32) (ix3 b 0 j) = Ideal.div ((((j.val + 1 : Nat) : ℝ) : EReal) - (img m c b).cx) (img m c b).fx := by
  unfold V
  after_reads_at
  rw [dif_pos hj]; after_reads_at; rw [sitofp_nat _ (small1 j), Nat.add_comm 1]; rfl
theorem array6 (i : Fin 512) : (V m c main_v32 : Vec Ideal S4x512x1 .f32) (ix3 b i 0) = Ideal.div (((i.val : ℝ) : EReal) - (img m c b).cy) (img m c b).fy := by
  unfold V
  after_reads_at
  rw [sitofp_nat _ (small i)]; rfl
theorem array7 (i : Fin 512) (hj : i.val < 511) : (V m c main_v34 : Vec Ideal S4x512x1 .f32) (ix3 b i 0) = Ideal.div ((((i.val + 1 : Nat) : ℝ) : EReal) - (img m c b).cy) (img m c b).fy := by
  unfold V
  after_reads_at
  rw [dif_pos hj]; after_reads_at; rw [sitofp_nat _ (small1 i), Nat.add_comm 1]; rfl
theorem array8 (j : Fin 512) : (V m c main_v37 : Vec Ideal S4x1x512 .f32) (ix3 b 0 j) = Ideal.div (Ideal.div (((j.val : ℝ) : EReal) - (img m c b).cx) (img m c b).fx) (img m c b).fy := by
  unfold V
  after_reads_at
  rw [sitofp_nat _ (small j)]; rfl
theorem array9 (i : Fin 512) : (V m c main_v40 : Vec Ideal S4x512x1 .f32) (ix3 b i 0) = Ideal.div (Ideal.div (((i.val : ℝ) : EReal) - (img m c b).cy) (img m c b).fy) (img m c b).fx := by
  unfold V
  after_reads_at
  rw [sitofp_nat _ (small i)]; rfl
theorem array10  : (V m c main_v43 : Vec Ideal S4x1x1 .f32) (ix3 b 0 0) = Ideal.div (Ideal.ofBits .f32 0xBF800000#32) (img m c b).fx := by
  unfold V
  after_reads_at
  rfl
theorem array11  : (V m c main_v46 : Vec Ideal S4x1x1 .f32) (ix3 b 0 0) = Ideal.div (Ideal.ofBits .f32 0xBF800000#32) (img m c b).fy := by
  unfold V
  after_reads_at
  rfl
theorem array12 (i : Fin 512) : (V m c main_v67 : Vec Ideal S4x512x1 .f32) (ix3 b i 0) = (FloatOps.uitofp .f32 (IntOp.andi
    (IntOp.andi (IntOp.cmpi .sge (BitVec.ofNat 32 i.val) ((img m c b).p 0)) (IntOp.cmpi .slt (BitVec.ofNat 32 i.val) (IntOp.subi 512#32 ((img m c b).p 1))))
    (IntOp.cmpi .slt (BitVec.ofNat 32 i.val) 511#32)) : Ideal .f32) := by
  unfold V
  after_reads_at
  rfl
theorem array13 (j : Fin 512) : (V m c main_v84 : Vec Ideal S4x1x512 .f32) (ix3 b 0 j) = (FloatOps.uitofp .f32 (IntOp.andi
    (IntOp.andi (IntOp.cmpi .sge (BitVec.ofNat 32 j.val) ((img m c b).p 2)) (IntOp.cmpi .slt (BitVec.ofNat 32 j.val) (IntOp.subi 512#32 ((img m c b).p 3))))
    (IntOp.cmpi .slt (BitVec.ofNat 32 j.val) 511#32)) : Ideal .f32) := by
  unfold V
  after_reads_at
  rfl
end Cert.KernelIdeal.Step
end
-- ==== Proof.Windows.lean ====
/-
  The windows of the grid points, as places of the arrays they lie in.
-/
module
public import proofs.«01_k».proof.Proof.KernelRun
public import proofs.«01_k».proof.Proof.HostArrays
@[expose] public section
set_option maxRecDepth 16384
noncomputable section
namespace Cert.KernelIdeal.Step
open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The grid point of image `b`. -/
def pt (b : Fin 4) : Fin cfg0.N := ⟨b.val, by rw [show cfg0.N = 4 from N_0]; exact b.isLt⟩

variable (b : Fin 4) (f : (r : Ref sig .tc) → Buf (Elt Ideal) ((c : Thread nD τ).loc r))
theorem block0 (i j : Fin 512) : (((cfg0.win 0).blk (pt b)).view.read (Elt Ideal) (f (Pipeline.arrRef spec0 0)) : Vec Ideal S1x512x512 .f32) (ix3 0 i j) = (f main_v0 : Vec Ideal S4x512x512 .f32) (ix3 b i j) := by
  have hi : ∀ b : Fin 4, win0_0.index (pt b) 0 = b.val ∧ win0_0.index (pt b) 1 = 0 ∧ win0_0.index (pt b) 2 = 0 := by decide +kernel
  rw [View.read_apply]
  show f main_v0 _ = f main_v0 _
  congr 1
  funext a
  apply Fin.ext
  match a with
  | ⟨0, _⟩ => show win0_0.index (pt b) 0 * 1 + 1 * (0 : Nat) = b.val; rw [(hi b).1] <;> omega
  | ⟨1, _⟩ => show win0_0.index (pt b) 1 * 512 + 1 * i.val = i.val; rw [(hi b).2.1] <;> omega
  | ⟨2, _⟩ => show win0_0.index (pt b) 2 * 512 + 1 * j.val = j.val; rw [(hi b).2.2] <;> omega
theorem block1 (i j : Fin 512) : (((cfg0.win 1).blk (pt b)).view.read (Elt Ideal) (f (Pipeline.arrRef spec0 1)) : Vec Ideal S1x512x512 .f32) (ix3 0 i j) = (f main_v1 : Vec Ideal S4x512x512 .f32) (ix3 b i j) := by
  have hi : ∀ b : Fin 4, win0_1.index (pt b) 0 = b.val ∧ win0_1.index (pt b) 1 = 0 ∧ win0_1.index (pt b) 2 = 0 := by decide +kernel
  rw [View.read_apply]
  show f main_v1 _ = f main_v1 _
  congr 1
  funext a
  apply Fin.ext
  match a with
  | ⟨0, _⟩ => show win0_1.index (pt b) 0 * 1 + 1 * (0 : Nat) = b.val; rw [(hi b).1] <;> omega
  | ⟨1, _⟩ => show win0_1.index (pt b) 1 * 512 + 1 * i.val = i.val; rw [(hi b).2.1] <;> omega
  | ⟨2, _⟩ => show win0_1.index (pt b) 2 * 512 + 1 * j.val = j.val; rw [(hi b).2.2] <;> omega
theorem block2 (i j : Fin 512) : (((cfg0.win 2).blk (pt b)).view.read (Elt Ideal) (f (Pipeline.arrRef spec0 2)) : Vec Ideal S1x512x512 .i8) (ix3 0 i j) = (f main_v3 : Vec Ideal S4x512x512 .i8) (ix3 b i j) := by
  have hi : ∀ b : Fin 4, win0_2.index (pt b) 0 = b.val ∧ win0_2.index (pt b) 1 = 0 ∧ win0_2.index (pt b) 2 = 0 := by decide +kernel
  rw [View.read_apply]
  show f main_v3 _ = f main_v3 _
  congr 1
  funext a
  apply Fin.ext
  match a with
  | ⟨0, _⟩ => show win0_2.index (pt b) 0 * 1 + 1 * (0 : Nat) = b.val; rw [(hi b).1] <;> omega
  | ⟨1, _⟩ => show win0_2.index (pt b) 1 * 512 + 1 * i.val = i.val; rw [(hi b).2.1] <;> omega
  | ⟨2, _⟩ => show win0_2.index (pt b) 2 * 512 + 1 * j.val = j.val; rw [(hi b).2.2] <;> omega
theorem block3 (k : Fin 4) (i j : Fin 512) : (((cfg0.win 3).blk (pt b)).view.read (Elt Ideal) (f (Pipeline.arrRef spec0 3)) : Vec Ideal S1x4x512x512 .f32) (ix4 0 k i j) = (f main_v4 : Vec Ideal S4x4x512x512 .f32) (ix4 b k i j) := by
  have hi : ∀ b : Fin 4, win0_3.index (pt b) 0 = b.val ∧ win0_3.index (pt b) 1 = 0 ∧ win0_3.index (pt b) 2 = 0 ∧ win0_3.index (pt b) 3 = 0 := by decide +kernel
  rw [View.read_apply]
  show f main_v4 _ = f main_v4 _
  congr 1
  funext a
  apply Fin.ext
  match a with
  | ⟨0, _⟩ => show win0_3.index (pt b) 0 * 1 + 1 * (0 : Nat) = b.val; rw [(hi b).1] <;> omega
  | ⟨1, _⟩ => show win0_3.index (pt b) 1 * 4 + 1 * k.val = k.val; rw [(hi b).2.1] <;> omega
  | ⟨2, _⟩ => show win0_3.index (pt b) 2 * 512 + 1 * i.val = i.val; rw [(hi b).2.2.1] <;> omega
  | ⟨3, _⟩ => show win0_3.index (pt b) 3 * 512 + 1 * j.val = j.val; rw [(hi b).2.2.2] <;> omega
theorem block4 (j : Fin 512) : (((cfg0.win 4).blk (pt b)).view.read (Elt Ideal) (f (Pipeline.arrRef spec0 4)) : Vec Ideal S1x1x512 .f32) (ix3 0 0 j) = (f main_v26 : Vec Ideal S4x1x512 .f32) (ix3 b 0 j) := by
  have hi : ∀ b : Fin 4, win0_4.index (pt b) 0 = b.val ∧ win0_4.index (pt b) 1 = 0 ∧ win0_4.index (pt b) 2 = 0 := by decide +kernel
  rw [View.read_apply]
  show f main_v26 _ = f main_v26 _
  congr 1
  funext a
  apply Fin.ext
  match a with
  | ⟨0, _⟩ => show win0_4.index (pt b) 0 * 1 + 1 * (0 : Nat) = b.val; rw [(hi b).1] <;> omega
  | ⟨1, _⟩ => show win0_4.index (pt b) 1 * 1 + 1 * (0 : Nat) = (0 : Nat); rw [(hi b).2.1] <;> omega
  | ⟨2, _⟩ => show win0_4.index (pt b) 2 * 512 + 1 * j.val = j.val; rw [(hi b).2.2] <;> omega
theorem block5 (j : Fin 512) : (((cfg0.win 5).blk (pt b)).view.read (Elt Ideal) (f (Pipeline.arrRef spec0 5)) : Vec Ideal S1x1x512 .f32) (ix3 0 0 j) = (f main_v33 : Vec Ideal S4x1x512 .f32) (ix3 b 0 j) := by
  have hi : ∀ b : Fin 4, win0_5.index (pt b) 0 = b.val ∧ win0_5.index (pt b) 1 = 0 ∧ win0_5.index (pt b) 2 = 0 := by decide +kernel
  rw [View.read_apply]
  show f main_v33 _ = f main_v33 _
  congr 1
  funext a
  apply Fin.ext
  match a with
  | ⟨0, _⟩ => show win0_5.index (pt b) 0 * 1 + 1 * (0 : Nat) = b.val; rw [(hi b).1] <;> omega
  | ⟨1, _⟩ => show win0_5.index (pt b) 1 * 1 + 1 * (0 : Nat) = (0 : Nat); rw [(hi b).2.1] <;> omega
  | ⟨2, _⟩ => show win0_5.index (pt b) 2 * 512 + 1 * j.val = j.val; rw [(hi b).2.2] <;> omega
theorem block6 (i : Fin 512) : (((cfg0.win 6).blk (pt b)).view.read (Elt Ideal) (f (Pipeline.arrRef spec0 6)) : Vec Ideal S1x512x1 .f32) (ix3 0 i 0) = (f main_v32 : Vec Ideal S4x512x1 .f32) (ix3 b i 0) := by
  have hi : ∀ b : Fin 4, win0_6.index (pt b) 0 = b.val ∧ win0_6.index (pt b) 1 = 0 ∧ win0_6.index (pt b) 2 = 0 := by decide +kernel
  rw [View.read_apply]
  show f main_v32 _ = f main_v32 _
  congr 1
  funext a
  apply Fin.ext
  match a with
  | ⟨0, _⟩ => show win0_6.index (pt b) 0 * 1 + 1 * (0 : Nat) = b.val; rw [(hi b).1] <;> omega
  | ⟨1, _⟩ => show win0_6.index (pt b) 1 * 512 + 1 * i.val = i.val; rw [(hi b).2.1] <;> omega
  | ⟨2, _⟩ => show win0_6.index (pt b) 2 * 1 + 1 * (0 : Nat) = (0 : Nat); rw [(hi b).2.2] <;> omega
theorem block7 (i : Fin 512) : (((cfg0.win 7).blk (pt b)).view.read (Elt Ideal) (f (Pipeline.arrRef spec0 7)) : Vec Ideal S1x512x1 .f32) (ix3 0 i 0) = (f main_v34 : Vec Ideal S4x512x1 .f32) (ix3 b i 0) := by
  have hi : ∀ b : Fin 4, win0_7.index (pt b) 0 = b.val ∧ win0_7.index (pt b) 1 = 0 ∧ win0_7.index (pt b) 2 = 0 := by decide +kernel
  rw [View.read_apply]
  show f main_v34 _ = f main_v34 _
  congr 1
  funext a
  apply Fin.ext
  match a with
  | ⟨0, _⟩ => show win0_7.index (pt b) 0 * 1 + 1 * (0 : Nat) = b.val; rw [(hi b).1] <;> omega
  | ⟨1, _⟩ => show win0_7.index (pt b) 1 * 512 + 1 * i.val = i.val; rw [(hi b).2.1] <;> omega
  | ⟨2, _⟩ => show win0_7.index (pt b) 2 * 1 + 1 * (0 : Nat) = (0 : Nat); rw [(hi b).2.2] <;> omega
theorem block8 (j : Fin 512) : (((cfg0.win 8).blk (pt b)).view.read (Elt Ideal) (f (Pipeline.arrRef spec0 8)) : Vec Ideal S1x1x512 .f32) (ix3 0 0 j) = (f main_v37 : Vec Ideal S4x1x512 .f32) (ix3 b 0 j) := by
  have hi : ∀ b : Fin 4, win0_8.index (pt b) 0 = b.val ∧ win0_8.index (pt b) 1 = 0 ∧ win0_8.index (pt b) 2 = 0 := by decide +kernel
  rw [View.read_apply]
  show f main_v37 _ = f main_v37 _
  congr 1
  funext a
  apply Fin.ext
  match a with
  | ⟨0, _⟩ => show win0_8.index (pt b) 0 * 1 + 1 * (0 : Nat) = b.val; rw [(hi b).1] <;> omega
  | ⟨1, _⟩ => show win0_8.index (pt b) 1 * 1 + 1 * (0 : Nat) = (0 : Nat); rw [(hi b).2.1] <;> omega
  | ⟨2, _⟩ => show win0_8.index (pt b) 2 * 512 + 1 * j.val = j.val; rw [(hi b).2.2] <;> omega
theorem block9 (i : Fin 512) : (((cfg0.win 9).blk (pt b)).view.read (Elt Ideal) (f (Pipeline.arrRef spec0 9)) : Vec Ideal S1x512x1 .f32) (ix3 0 i 0) = (f main_v40 : Vec Ideal S4x512x1 .f32) (ix3 b i 0) := by
  have hi : ∀ b : Fin 4, win0_9.index (pt b) 0 = b.val ∧ win0_9.index (pt b) 1 = 0 ∧ win0_9.index (pt b) 2 = 0 := by decide +kernel
  rw [View.read_apply]
  show f main_v40 _ = f main_v40 _
  congr 1
  funext a
  apply Fin.ext
  match a with
  | ⟨0, _⟩ => show win0_9.index (pt b) 0 * 1 + 1 * (0 : Nat) = b.val; rw [(hi b).1] <;> omega
  | ⟨1, _⟩ => show win0_9.index (pt b) 1 * 512 + 1 * i.val = i.val; rw [(hi b).2.1] <;> omega
  | ⟨2, _⟩ => show win0_9.index (pt b) 2 * 1 + 1 * (0 : Nat) = (0 : Nat); rw [(hi b).2.2] <;> omega
theorem block10 : (((cfg0.win 10).blk (pt b)).view.read (Elt Ideal) (f (Pipeline.arrRef spec0 10)) : Vec Ideal S1x1x1 .f32) (ix3 0 0 0) = (f main_v43 : Vec Ideal S4x1x1 .f32) (ix3 b 0 0) := by
  have hi : ∀ b : Fin 4, win0_10.index (pt b) 0 = b.val ∧ win0_10.index (pt b) 1 = 0 ∧ win0_10.index (pt b) 2 = 0 := by decide +kernel
  rw [View.read_apply]
  show f main_v43 _ = f main_v43 _
  congr 1
  funext a
  apply Fin.ext
  match a with
  | ⟨0, _⟩ => show win0_10.index (pt b) 0 * 1 + 1 * (0 : Nat) = b.val; rw [(hi b).1] <;> omega
  | ⟨1, _⟩ => show win0_10.index (pt b) 1 * 1 + 1 * (0 : Nat) = (0 : Nat); rw [(hi b).2.1] <;> omega
  | ⟨2, _⟩ => show win0_10.index (pt b) 2 * 1 + 1 * (0 : Nat) = (0 : Nat); rw [(hi b).2.2] <;> omega
theorem block11 : (((cfg0.win 11).blk (pt b)).view.read (Elt Ideal) (f (Pipeline.arrRef spec0 11)) : Vec Ideal S1x1x1 .f32) (ix3 0 0 0) = (f main_v46 : Vec Ideal S4x1x1 .f32) (ix3 b 0 0) := by
  have hi : ∀ b : Fin 4, win0_11.index (pt b) 0 = b.val ∧ win0_11.index (pt b) 1 = 0 ∧ win0_11.index (pt b) 2 = 0 := by decide +kernel
  rw [View.read_apply]
  show f main_v46 _ = f main_v46 _
  congr 1
  funext a
  apply Fin.ext
  match a with
  | ⟨0, _⟩ => show win0_11.index (pt b) 0 * 1 + 1 * (0 : Nat) = b.val; rw [(hi b).1] <;> omega
  | ⟨1, _⟩ => show win0_11.index (pt b) 1 * 1 + 1 * (0 : Nat) = (0 : Nat); rw [(hi b).2.1] <;> omega
  | ⟨2, _⟩ => show win0_11.index (pt b) 2 * 1 + 1 * (0 : Nat) = (0 : Nat); rw [(hi b).2.2] <;> omega
theorem block12 (i : Fin 512) : (((cfg0.win 12).blk (pt b)).view.read (Elt Ideal) (f (Pipeline.arrRef spec0 12)) : Vec Ideal S1x512x1 .f32) (ix3 0 i 0) = (f main_v67 : Vec Ideal S4x512x1 .f32) (ix3 b i 0) := by
  have hi : ∀ b : Fin 4, win0_12.index (pt b) 0 = b.val ∧ win0_12.index (pt b) 1 = 0 ∧ win0_12.index (pt b) 2 = 0 := by decide +kernel
  rw [View.read_apply]
  show f main_v67 _ = f main_v67 _
  congr 1
  funext a
  apply Fin.ext
  match a with
  | ⟨0, _⟩ => show win0_12.index (pt b) 0 * 1 + 1 * (0 : Nat) = b.val; rw [(hi b).1] <;> omega
  | ⟨1, _⟩ => show win0_12.index (pt b) 1 * 512 + 1 * i.val = i.val; rw [(hi b).2.1] <;> omega
  | ⟨2, _⟩ => show win0_12.index (pt b) 2 * 1 + 1 * (0 : Nat) = (0 : Nat); rw [(hi b).2.2] <;> omega
theorem block13 (j : Fin 512) : (((cfg0.win 13).blk (pt b)).view.read (Elt Ideal) (f (Pipeline.arrRef spec0 13)) : Vec Ideal S1x1x512 .f32) (ix3 0 0 j) = (f main_v84 : Vec Ideal S4x1x512 .f32) (ix3 b 0 j) := by
  have hi : ∀ b : Fin 4, win0_13.index (pt b) 0 = b.val ∧ win0_13.index (pt b) 1 = 0 ∧ win0_13.index (pt b) 2 = 0 := by decide +kernel
  rw [View.read_apply]
  show f main_v84 _ = f main_v84 _
  congr 1
  funext a
  apply Fin.ext
  match a with
  | ⟨0, _⟩ => show win0_13.index (pt b) 0 * 1 + 1 * (0 : Nat) = b.val; rw [(hi b).1] <;> omega
  | ⟨1, _⟩ => show win0_13.index (pt b) 1 * 1 + 1 * (0 : Nat) = (0 : Nat); rw [(hi b).2.1] <;> omega
  | ⟨2, _⟩ => show win0_13.index (pt b) 2 * 512 + 1 * j.val = j.val; rw [(hi b).2.2] <;> omega

end Cert.KernelIdeal.Step
end
-- ==== Proof.HostRead.lean ====
/-
  The blocks of the grid points, read as the image's values.
-/
module
public import proofs.«01_k».proof.Proof.Windows
@[expose] public section
set_option maxRecDepth 16384
noncomputable section
namespace Cert.KernelIdeal.Step
open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD) (b : Fin 4)

theorem read0 (i : Fin 512) (j : Fin 512) : (iblk m c 0 (pt b) : Vec Ideal S1x512x512 .f32) (ix3 0 i j) = (img m c b).D i j := by
  have e := array0 m c b i j
  unfold iblk
  generalize V m c = f at e ⊢
  exact (block0 c b f i j).trans e
theorem read1 (i : Fin 512) (j : Fin 512) : (iblk m c 1 (pt b) : Vec Ideal S1x512x512 .f32) (ix3 0 i j) = (img m c b).C i j := by
  have e := array1 m c b i j
  unfold iblk
  generalize V m c = f at e ⊢
  exact (block1 c b f i j).trans e
theorem read2 (i : Fin 512) (j : Fin 512) : (iblk m c 2 (pt b) : Vec Ideal S1x512x512 .i8) (ix3 0 i j) = BitVec.setWidth 8 ((img m c b).S i j) := by
  have e := array2 m c b i j
  unfold iblk
  generalize V m c = f at e ⊢
  exact (block2 c b f i j).trans e
theorem read3 (k : Fin 4) (i : Fin 512) (j : Fin 512) : (iblk m c 3 (pt b) : Vec Ideal S1x4x512x512 .f32) (ix4 0 k i j) = (img m c b).Q k i j := by
  have e := array3 m c b k i j
  unfold iblk
  generalize V m c = f at e ⊢
  exact (block3 c b f k i j).trans e
theorem read4 (j : Fin 512) : (iblk m c 4 (pt b) : Vec Ideal S1x1x512 .f32) (ix3 0 0 j) = Ideal.div (((j.val : ℝ) : EReal) - (img m c b).cx) (img m c b).fx := by
  have e := array4 m c b j
  unfold iblk
  generalize V m c = f at e ⊢
  exact (block4 c b f j).trans e
theorem read5 (j : Fin 512) (h : j.val < 511) : (iblk m c 5 (pt b) : Vec Ideal S1x1x512 .f32) (ix3 0 0 j) = Ideal.div ((((j.val + 1 : Nat) : ℝ) : EReal) - (img m c b).cx) (img m c b).fx := by
  have e := array5 m c b j h
  unfold iblk
  generalize V m c = f at e ⊢
  exact (block5 c b f j).trans e
theorem read6 (i : Fin 512) : (iblk m c 6 (pt b) : Vec Ideal S1x512x1 .f32) (ix3 0 i 0) = Ideal.div (((i.val : ℝ) : EReal) - (img m c b).cy) (img m c b).fy := by
  have e := array6 m c b i
  unfold iblk
  generalize V m c = f at e ⊢
  exact (block6 c b f i).trans e
theorem read7 (i : Fin 512) (h : i.val < 511) : (iblk m c 7 (pt b) : Vec Ideal S1x512x1 .f32) (ix3 0 i 0) = Ideal.div ((((i.val + 1 : Nat) : ℝ) : EReal) - (img m c b).cy) (img m c b).fy := by
  have e := array7 m c b i h
  unfold iblk
  generalize V m c = f at e ⊢
  exact (block7 c b f i).trans e
theorem read8 (j : Fin 512) : (iblk m c 8 (pt b) : Vec Ideal S1x1x512 .f32) (ix3 0 0 j) = Ideal.div (Ideal.div (((j.val : ℝ) : EReal) - (img m c b).cx) (img m c b).fx) (img m c b).fy := by
  have e := array8 m c b j
  unfold iblk
  generalize V m c = f at e ⊢
  exact (block8 c b f j).trans e
theorem read9 (i : Fin 512) : (iblk m c 9 (pt b) : Vec Ideal S1x512x1 .f32) (ix3 0 i 0) = Ideal.div (Ideal.div (((i.val : ℝ) : EReal) - (img m c b).cy) (img m c b).fy) (img m c b).fx := by
  have e := array9 m c b i
  unfold iblk
  generalize V m c = f at e ⊢
  exact (block9 c b f i).trans e
theorem read10  : (iblk m c 10 (pt b) : Vec Ideal S1x1x1 .f32) (ix3 0 0 0) = Ideal.div (Ideal.ofBits .f32 0xBF800000#32) (img m c b).fx := by
  have e := array10 m c b
  unfold iblk
  generalize V m c = f at e ⊢
  exact (block10 c b f ).trans e
theorem read11  : (iblk m c 11 (pt b) : Vec Ideal S1x1x1 .f32) (ix3 0 0 0) = Ideal.div (Ideal.ofBits .f32 0xBF800000#32) (img m c b).fy := by
  have e := array11 m c b
  unfold iblk
  generalize V m c = f at e ⊢
  exact (block11 c b f ).trans e
theorem read12 (i : Fin 512) : (iblk m c 12 (pt b) : Vec Ideal S1x512x1 .f32) (ix3 0 i 0) = (FloatOps.uitofp .f32 (IntOp.andi
    (IntOp.andi (IntOp.cmpi .sge (BitVec.ofNat 32 i.val) ((img m c b).p 0)) (IntOp.cmpi .slt (BitVec.ofNat 32 i.val) (IntOp.subi 512#32 ((img m c b).p 1))))
    (IntOp.cmpi .slt (BitVec.ofNat 32 i.val) 511#32)) : Ideal .f32) := by
  have e := array12 m c b i
  unfold iblk
  generalize V m c = f at e ⊢
  exact (block12 c b f i).trans e
theorem read13 (j : Fin 512) : (iblk m c 13 (pt b) : Vec Ideal S1x1x512 .f32) (ix3 0 0 j) = (FloatOps.uitofp .f32 (IntOp.andi
    (IntOp.andi (IntOp.cmpi .sge (BitVec.ofNat 32 j.val) ((img m c b).p 2)) (IntOp.cmpi .slt (BitVec.ofNat 32 j.val) (IntOp.subi 512#32 ((img m c b).p 3))))
    (IntOp.cmpi .slt (BitVec.ofNat 32 j.val) 511#32)) : Ideal .f32) := by
  have e := array13 m c b j
  unfold iblk
  generalize V m c = f at e ⊢
  exact (block13 c b f j).trans e

attribute [local irreducible] iblk img in
/-- The grid point of image `b` reads it. -/
theorem reads : Reads (blk m c (pt b)) (img m c b) := by
  unfold blk
  exact ⟨read0 m c b,
    read1 m c b,
    read2 m c b,
    read3 m c b,
    read4 m c b,
    read5 m c b,
    read6 m c b,
    read7 m c b,
    read8 m c b,
    read9 m c b,
    read10 m c b,
    read11 m c b,
    read12 m c b,
    read13 m c b⟩
end Cert.KernelIdeal.Step
end
-- ==== Proof.Combine.lean ====
/-
  The kernel's result and the reference's are one number: both sum the same losses over the same pixels.
-/
module
public import proofs.«01_k».proof.Proof.RefLoss
public import proofs.«01_k».proof.Proof.HostRead
public import proofs.«01_k».proof.Proof.KernelRun
@[expose] public section
set_option maxRecDepth 16384
noncomputable section
namespace Cert.Combine
open Idealize.ShloMosaic Idealize.ShloMosaic.TcCoe Idealize.SL.Sem Idealize.ShloMosaic.StableHlo Cert.Px Cert.Words Cert.Bits

/-! The last guards -/

theorem ten_iff {N : Nat} (h : N ≤ 2 ^ 20) : IntOp.cmpi .slt (BitVec.ofNat 32 N) 10#32 = 1#1 ↔ N < 10 := by
  rw [slt_iff, WordArith.toInt_ofNat_small N (by omega)]
  simp

theorem few_iff (N : Nat) : ((N : ℝ) : EReal) < Ideal.ofBits .f32 0x41200000#32 ↔ N < 10 := by
  rw [w_ten, EReal.coe_lt_coe_iff]
  exact_mod_cast Iff.rfl

theorem zero_or {x : BitVec 1} (h : ¬ x = 1#1) (y : BitVec 1) : IntOp.ori x y = y := by revert x y; decide
theorem one_or (x y : BitVec 1) : IntOp.ori (IntOp.ori 1#1 x) y = 1#1 := by revert x y; decide

/-- The kernel's last guards and the reference's give one number. -/
theorem guards {N : Nat} (h : N ≤ 2 ^ 20) (a : EReal) (L z : FVec Ideal Cert.ReferenceIdeal.S_ .f32) (hz : z ix0 = (0 : EReal))
    (hL : L ix0 = Scalar.select (IntOp.cmpi .slt (BitVec.ofNat 32 N) 10#32) (0 : EReal) (Ideal.div a (max ((N : ℝ) : EReal) 1))) :
    shapeCast Cert.ReferenceIdeal.S1 (select (ori (cmpf .une L L) (cmpf .oeq (Host.absf L) (constant Cert.ReferenceIdeal.S_ .f32 0x7F800000#32))) z L)
        Cert.ReferenceIdeal.Gen.facts.shapeCasts_S_S1 (ix1 0)
      = Cert.KernelIdeal.Gen.k0_pay3 (F := Ideal) a ((N : ℝ) : EReal) := by
  have same : ∀ y : EReal, BitVec.ofBool (decide (y ≠ y)) = 0#1 := fun y => by simp
  have e : Scalar.select (IntOp.ori (BitVec.ofBool (decide ((L ix0 : EReal) ≠ L ix0)))
        (BitVec.ofBool (decide (FloatOps.absf (F := Ideal) (φ := .f32) (L ix0) = Ideal.ofBits .f32 0x7F800000#32)))) (z ix0 : EReal) (L ix0)
      = Scalar.select (IntOp.ori (IntOp.ori (BitVec.ofBool (decide (((N : ℝ) : EReal) < Ideal.ofBits .f32 0x41200000#32)))
          (BitVec.ofBool (decide (Ideal.div a (max ((N : ℝ) : EReal) 1) ≠ Ideal.div a (max ((N : ℝ) : EReal) 1)))))
        (BitVec.ofBool (decide (FloatOps.absf (F := Ideal) (φ := .f32) (Ideal.div a (max ((N : ℝ) : EReal) 1)) = Ideal.ofBits .f32 0x7F800000#32))))
        (0 : EReal) (Ideal.div a (max ((N : ℝ) : EReal) 1)) := by
    rw [hz, hL]
    generalize Ideal.div a (max ((N : ℝ) : EReal) 1) = q
    rw [same, same, zero_or (by decide)]
    by_cases hN : N < 10
    · rw [(ten_iff h).mpr hN, (ofBool_iff _).mpr ((few_iff N).mpr hN), one_or]
      exact ite_self _
    · have hk : ¬ BitVec.ofBool (decide (((N : ℝ) : EReal) < Ideal.ofBits .f32 0x41200000#32)) = 1#1 := fun h => hN ((few_iff N).mp ((ofBool_iff _).mp h))
      have hr : Scalar.select (IntOp.cmpi .slt (BitVec.ofNat 32 N) 10#32) (0 : EReal) q = q := if_neg (mt (ten_iff h).mp hN)
      rw [hr, zero_or hk, zero_or (by decide)]
  pointwise [Cert.KernelIdeal.Gen.k0_pay3]
  exact e

/-! The sums over the images -/

section
open Cert.KernelIdeal Cert.KernelIdeal.Gen Cert.KernelIdeal.Step
variable (m : (ℓ : Loc nD τ sig) → Buf (Elt Ideal) ℓ) (c : Dev nD) (s : Fin 4 → EReal)
variable (hg : ∀ b, (img m c b).Fine) (hs : ∀ b, (img m c b).Statistic (s b))
include hg hs

open Classical in
theorem total_eq : total m c = ∑ b, ∑ i, ∑ j, if (img m c b).Sampled (roundDown (s b)) i j then (img m c b).loss i j else 0 := by
  have e : ∀ (b : Fin 4) (a : EReal), addLoss (blk m c (pt b)) a = a + ∑ i, ∑ j, if (img m c b).Sampled (roundDown (s b)) i j then (img m c b).loss i j else 0 :=
    fun b a => addLoss_eq (reads m c b) (hg b) _ (roundDown_nonneg (reads m c b) (hg b) (hs b)) (level_eq (reads m c b) (hg b) (hs b)) a
  have h : total m c = addLoss (blk m c (pt 3)) (addLoss (blk m c (pt 2)) (addLoss (blk m c (pt 1)) (addLoss (blk m c (pt 0)) (0 : EReal)))) := rfl
  rw [h, e, e, e, e, Fin.sum_univ_four, zero_add]

open Classical in
theorem count_eq : count m c = ∑ b, ∑ i, ∑ j, if (img m c b).Sampled (roundDown (s b)) i j then (1 : EReal) else 0 := by
  have e : ∀ (b : Fin 4) (a : EReal), addCount (blk m c (pt b)) a = a + ∑ i, ∑ j, if (img m c b).Sampled (roundDown (s b)) i j then (1 : EReal) else 0 :=
    fun b a => addCount_eq (reads m c b) (hg b) _ (roundDown_nonneg (reads m c b) (hg b) (hs b)) (level_eq (reads m c b) (hg b) (hs b)) a
  have h : count m c = addCount (blk m c (pt 3)) (addCount (blk m c (pt 2)) (addCount (blk m c (pt 1)) (addCount (blk m c (pt 0)) (0 : EReal)))) := rfl
  rw [h, e, e, e, e, Fin.sum_univ_four, zero_add]
end

/-! One result -/

open Cert.ReferenceIdeal Cert.ReferenceIdeal.Value in
theorem result_eq (m : (ℓ : Loc Cert.KernelIdeal.nD Cert.KernelIdeal.τ Cert.KernelIdeal.sig) → Buf (Elt Ideal) ℓ) (c : Dev Cert.KernelIdeal.nD)
    (V0 : Valuation τ sig (Elt Ideal)) (hi : ∀ b, Cert.RefRead.img V0 b = Cert.KernelIdeal.Step.img m c b) (hg : ∀ b, (Cert.KernelIdeal.Step.img m c b).Fine) :
    shapeCast S1 (select (ori (cmpf .une (res_main_v251 V0) (res_main_v251 V0)) (cmpf .oeq (Host.absf (res_main_v251 V0)) (constant S_ .f32 0x7F800000#32))) (res_main_v249 V0) (res_main_v251 V0))
        Cert.ReferenceIdeal.Gen.facts.shapeCasts_S_S1
      = Cert.KernelIdeal.Step.result m c := by
  classical
  have hr : ∀ b, (Cert.RefRead.img V0 b).Fine := fun b => (hi b).symm ▸ hg b
  have hs : ∀ b, (Cert.KernelIdeal.Step.img m c b).Statistic (Cert.RefRead.stat V0 b) := fun b => hi b ▸ Cert.RefRead.statistic (hr b)
  have ht := total_eq m c _ hg hs
  have hc := count_eq m c _ hg hs
  have hm := Cert.RefRead.mean_eq hr
  have hn := Cert.RefRead.sampledCount_eq hr
  simp only [hi] at hm hn
  rw [← ht] at hm
  rw [← hc] at hn
  funext j
  rw [show j = ix1 0 from funext fun k => by fin_cases k; exact Subsingleton.elim (α := Fin 1) _ _]
  refine (guards Cert.RefRead.sampledCount_le _ _ _ Cert.RefRead.zero_at hm).trans ?_
  rw [hn]
  rfl
end Cert.Combine
end
-- ==== Proof.Precond.lean ====
/-
  What the precondition says of each image: its depths and its principal point are real numbers, its focal lengths are not
  zero, and its labels index the table of 150 classes.
-/
module
public import proofs.«01_k».proof.Defs
public import proofs.«01_k».proof.Proof.HostArrays
public import Idealize.ShloMosaic.Lib.ReduceAll
@[expose] public section
set_option maxRecDepth 16384
noncomputable section
namespace Cert.Precond
open Cert.Pre_inputs_in_range Idealize.ShloMosaic Cert.Px Cert.Words Cert.Bits

/-- The shape relations that the precondition's operations state. -/
theorem facts : Cert.Pre_inputs_in_range.Facts := by
  constructor <;> decide
attribute [local instance] facts

variable {a0 : IVec S4x1x512x512 1} {a1 : IVec S4 32} {a2 : IVec S4x4 32} {a3 a4 : FVec Ideal S4x1x512x512 .f32} {a5 : FVec Ideal S1x4x4x512x512 .f32}
  {a6 : FVec Ideal S4x3x3 .f32} {a7 : IVec S4x1x512x512 32}

theorem all {s : Shape} {x : IVec s 1} {y : IVec S_ 1} {axes : List (Fin s.rank)} {h : s.ReducesTo axes S_} {hu : 0 < S_.numel}
    (e : Host.reduce IntOp.andi x y h hu ix0 = 1#1) (i : s.Idx) : x i = 1#1 :=
  haveI : Subsingleton S_.Idx := ⟨fun a b => funext fun k => k.elim0⟩
  Host.reduce_andi_all x y h hu ix0 e i

theorem real_of {z : EReal} (h : ⊥ < z ∧ z < ⊤) : ∃ r : ℝ, z = r :=
  ⟨z.toReal, (EReal.coe_toReal h.2.ne h.1.ne').symm⟩

theorem read (h : fn (F := Ideal) a0 a1 a2 a3 a4 a5 a6 a7 = fun _ => 1#1) (b : Fin 4) :
    (∀ r c : Fin 512, (⊥ : EReal) < a3 (ix4 b 0 r c) ∧ (a3 (ix4 b 0 r c) : EReal) < ⊤)
    ∧ ((a6 (ix3 b 0 0) : EReal) ≠ 0 ∧ (a6 (ix3 b 1 1) : EReal) ≠ 0)
    ∧ ((⊥ : EReal) < a6 (ix3 b 0 2) ∧ (a6 (ix3 b 0 2) : EReal) < ⊤)
    ∧ ((⊥ : EReal) < a6 (ix3 b 1 2) ∧ (a6 (ix3 b 1 2) : EReal) < ⊤)
    ∧ ∀ r c : Fin 512, 0 ≤ (a7 (ix4 b 0 r c)).toInt ∧ (a7 (ix4 b 0 r c)).toInt < 150 := by
  have e := congrFun h ix0
  simp only [fn, fn_part1, fn_part2, andi, and_iff] at e
  obtain ⟨⟨⟨⟨hd, hf⟩, hx⟩, hy⟩, hs⟩ := e
  refine ⟨fun r c => ?_, ?_, ?_, ?_, fun r c => ?_⟩
  · have e := all hd (ix4 b 0 r c)
    pointwise [] at e
    rwa [and_iff, ofBool_iff, ofBool_iff, w_inf, w_negInf] at e
  · have e := all hf (ix1 b)
    pointwise [] at e
    rwa [and_iff, ofBool_iff, ofBool_iff] at e
  · have e := all hx (ix1 b)
    pointwise [] at e
    rwa [and_iff, ofBool_iff, ofBool_iff, w_inf, w_negInf] at e
  · have e := all hy (ix1 b)
    pointwise [] at e
    rwa [and_iff, ofBool_iff, ofBool_iff, w_inf, w_negInf] at e
  · have e := all hs (ix4 b 0 r c)
    pointwise [] at e
    rw [and_iff, sge_iff, slt_iff] at e
    exact e

/-- Every image of arguments that meet the precondition is in range. -/
theorem fine (m : (ℓ : Loc Cert.KernelIdeal.nD Cert.KernelIdeal.τ Cert.KernelIdeal.sig) → Buf (Elt Ideal) ℓ)
    (h : Cert.Pre_KernelIdeal_inputs_in_range m) (c : Dev Cert.KernelIdeal.nD) (b : Fin 4) : (Cert.KernelIdeal.Step.img m c b).Fine :=
  have e := read (h c) b
  ⟨fun i j => real_of (e.1 i j), e.2.1.1, e.2.1.2, real_of e.2.2.1, real_of e.2.2.2.1, e.2.2.2.2⟩
end Cert.Precond
end
-- ==== Proof.lean ====
/-
  Every claim of `Cert.Claim`.

  The programs' shape relations and the kernel's run without faults come from the generated modules. Proved by hand: what
  the kernel leaves of its four steps (KernelStep, KernelRun), what each step adds over its image (KernelRead, Threshold),
  what arrays it reads (HostArrays, Windows, HostRead), the reference at each pixel (RefNormal), its threshold statistic
  (Order), its sums (RefLoss), and that both results are one number (Combine) where the inputs are in range (Precond).
-/
module

public import proofs.«01_k».proof.Defs
public import proofs.«01_k».proof.Proof.Gen.Kernel.Frame
public import proofs.«01_k».proof.Proof.Gen.KernelIdeal.Frame
public import proofs.«01_k».proof.Proof.Combine
public import proofs.«01_k».proof.Proof.Precond
public import Idealize.ShloMosaic.Lib.Quiescent

@[expose] public section

noncomputable section

namespace Cert.Proof

open Idealize.ShloMosaic Idealize.SL.Sem Idealize.ShloMosaic.StableHlo Cert.Px

/-- The reference runs, leaves its arguments as they were, and has no semaphore. -/
theorem frame_reference : quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- An image of the reference's arguments is the image of the kernel's. -/
theorem img_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (b : Fin 4) : Cert.RefRead.img (launchContents m' c) b = Cert.KernelIdeal.Step.img m c b := by
  unfold Cert.KernelIdeal.Step.img
  rw [← h2, ← h3, ← h4, ← h5, ← h6, ← h7]
  rfl

theorem claim : Cert.Claim :=
  ⟨Cert.Kernel.Gen.facts, Cert.KernelIdeal.Gen.facts, Cert.ReferenceIdeal.Gen.facts, Cert.Precond.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    ⟨IdealRules.named_const.statement _ _ _ _ _ rfl, IdealRules.named_const.statement _ _ _ _ _ rfl⟩,
    fun m ρ m' ρ' hpre hag => ⟨fun c => Cert.KernelIdeal.Step.result m c, Cert.KernelIdeal.Step.run m ρ,
      (θ_run Cert.ReferenceIdeal.defs _ _).mono
        (fun _ h c => ⟨(h c).1.trans (Cert.Combine.result_eq m c _
            (img_eq m m' c (hag c).2.2.1 (hag c).2.2.2.1 (hag c).2.2.2.2.1 (hag c).2.2.2.2.2.1 (hag c).2.2.2.2.2.2.1 (hag c).2.2.2.2.2.2.2)
            (Cert.Precond.fine m hpre c)), (h c).2⟩)
        (Cert.ReferenceIdeal.Value.run (F := Ideal) m' ρ')⟩⟩

end Cert.Proof

end
